-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .bf16 0x3DB5#16 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![512, 128]⟩ ⟨2, ![2048, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 128]⟩ ⟨2, ![2048, 128]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 128]⟩ ⟨2, ![2048, 128]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 128]⟩ ⟨2, ![2048, 128]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S512x128 : Shape := ⟨2, ![512, 128]⟩
abbrev S_ : Shape := ⟨0, ![]⟩

class Facts : Prop where
  bitsLt_bf16_f32 : FTy.bits .bf16 < FTy.bits .f32
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .bf16) (main_arg1 : FVec F S512x128 .bf16) (main_arg2 : FVec F S512x128 .bf16) : IVec S_ 1 :=
  let main_v0 : FVec F S512x128 .f32 := (extf .f32 · bitsLt_bf16_f32) main_arg0
  let main_v1 : FVec F S512x128 .f32 := Host.absf main_v0
  let main_cst : FVec F S_ .f32 := constant S_ .f32 0x7F800000#32
  let main_v2 : FVec F S512x128 .f32 := broadcastInDim S512x128 ![] bcast_S_S512x128 main_cst
  let main_v3 : IVec S512x128 1 := cmpf .olt main_v1 main_v2
  let main_c : IVec S_ 1 := constantI S_ 1 1#1
  let main_v4 : IVec S_ 1 := (fun x v => Host.reduce IntOp.andi x v reducesTo_S512x128_S_d0_1 h_S_) main_v3 main_c
  let main_v5 : FVec F S512x128 .f32 := (extf .f32 · bitsLt_bf16_f32) main_arg1
  let main_v6 : FVec F S512x128 .f32 := Host.absf main_v5
  let main_cst_0 : FVec F S_ .f32 := constant S_ .f32 0x7F800000#32
  let main_v7 : FVec F S512x128 .f32 := broadcastInDim S512x128 ![] bcast_S_S512x128 main_cst_0
  let main_v8 : IVec S512x128 1 := cmpf .olt main_v6 main_v7
  let main_c_1 : IVec S_ 1 := constantI S_ 1 1#1
  let main_v9 : IVec S_ 1 := (fun x v => Host.reduce IntOp.andi x v reducesTo_S512x128_S_d0_1 h_S_) main_v8 main_c_1
  let main_v10 : IVec S_ 1 := andi main_v4 main_v9
  main_v10
-- ==== Pre_finite_scores_ReferenceIdeal.lean ====
abbrev S2048x128 : Shape := ⟨2, ![2048, 128]⟩
abbrev S_ : Shape := ⟨0, ![]⟩

class Facts : Prop where
  bitsLt_bf16_f32 : FTy.bits .bf16 < FTy.bits .f32
  bcast_S_S2048x128 : S_.BroadcastsInDim S2048x128 (![] : Fin 0 → Fin S2048x128.rank)
  reducesTo_S2048x128_S_d0_1 : S2048x128.ReducesTo [0, 1] S_
  h_S_ : 0 < S_.numel

variable [Facts]

def fn {F : FTy → Type} [FloatOps F] (main_arg0 : FVec F S2048x128 .bf16) (main_arg1 : FVec F S2048x128 .bf16) (main_arg2 : FVec F S2048x128 .bf16) : IVec S_ 1 :=
  let main_v0 : FVec F S2048x128 .f32 := (extf .f32 · bitsLt_bf16_f32) main_arg0
  let main_v1 : FVec F S2048x128 .f32 := Host.absf main_v0
  let main_cst : FVec F S_ .f32 := constant S_ .f32 0x7F800000#32
  let main_v2 : FVec F S2048x128 .f32 := broadcastInDim S2048x128 ![] bcast_S_S2048x128 main_cst
  let main_v3 : IVec S2048x128 1 := cmpf .olt main_v1 main_v2
  let main_c : IVec S_ 1 := constantI S_ 1 1#1
  let main_v4 : IVec S_ 1 := (fun x v => Host.reduce IntOp.andi x v reducesTo_S2048x128_S_d0_1 h_S_) main_v3 main_c
  let main_v5 : FVec F S2048x128 .f32 := (extf .f32 · bitsLt_bf16_f32) main_arg1
  let main_v6 : FVec F S2048x128 .f32 := Host.absf main_v5
  let main_cst_0 : FVec F S_ .f32 := constant S_ .f32 0x7F800000#32
  let main_v7 : FVec F S2048x128 .f32 := broadcastInDim S2048x128 ![] bcast_S_S2048x128 main_cst_0
  let main_v8 : IVec S2048x128 1 := cmpf .olt main_v6 main_v7
  let main_c_1 : IVec S_ 1 := constantI S_ 1 1#1
  let main_v9 : IVec S_ 1 := (fun x v => Host.reduce IntOp.andi x v reducesTo_S2048x128_S_d0_1 h_S_) main_v8 main_c_1
  let main_v10 : IVec S_ 1 := andi main_v4 main_v9
  main_v10
-- ==== Kernel.lean ====
abbrev S512x128 : Shape := ⟨2, ![512, 128]⟩
abbrev S4x2x512x128 : Shape := ⟨4, ![4, 2, 512, 128]⟩
abbrev S4 : Shape := ⟨1, ![4]⟩
abbrev S_ : Shape := ⟨0, ![]⟩
abbrev S1x1x512x128 : Shape := ⟨4, ![1, 1, 512, 128]⟩
abbrev S1 : Shape := ⟨1, ![1]⟩
abbrev S1x2x512x128 : Shape := ⟨4, ![1, 2, 512, 128]⟩
abbrev S2x512x128 : Shape := ⟨3, ![2, 512, 128]⟩
abbrev S512x1 : Shape := ⟨2, ![512, 1]⟩
abbrev S128x512 : Shape := ⟨2, ![128, 512]⟩
abbrev S512x512 : Shape := ⟨2, ![512, 512]⟩
abbrev S512 : Shape := ⟨1, ![512]⟩

abbrev nBuf : Space → Nat
  | .hbm => 4
  | .vmem => 5
  | .smem => 0
  | _ => 0

abbrev bufTy : (tb : Table) → Fin (tcTables nBuf tb) → BufTy
  | .hbm, ⟨0, _⟩ => ⟨S512x128, .bf16⟩
  | .hbm, ⟨1, _⟩ => ⟨S512x128, .bf16⟩
  | .hbm, ⟨2, _⟩ => ⟨S512x128, .bf16⟩
  | .hbm, ⟨3, _⟩ => ⟨S512x128, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .f32⟩
  | .local _ .vmem, ⟨4, _⟩ => ⟨S4x2x512x128, .bf16⟩
  | _, _ => ⟨S512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19 : BitVec 32 := 1#32
  let v37 : BitVec 32 := Scalar.muli v13 c1_i32_19
  let v38 : BitVec 32 := Scalar.addi c0_i32_20 v37
  v38.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_22 : BitVec 32 := 1#32
  let v39 : BitVec 32 := Scalar.muli v24 c1_i32_22
  let v40 : BitVec 32 := Scalar.addi c0_i32_23 v39
  v40.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_25 : BitVec 32 := 1#32
  let v41 : BitVec 32 := Scalar.muli v35 c1_i32_25
  let v42 : BitVec 32 := Scalar.addi c0_i32_26 v41
  v42.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_38 : BitVec 32 := 1#32
  let v53 : BitVec 32 := Scalar.addi v2 c1_i32_38
  let c4_i32_39 : BitVec 32 := 4#32
  let c0_i32_40 : BitVec 32 := 0#32
  let v54 : BitVec 1 := Scalar.cmpi .eq c4_i32_39 c0_i32_40
  let c1_i32_41 : BitVec 32 := 1#32
  let v55 : BitVec 32 := Scalar.select v54 c1_i32_41 c4_i32_39
  let v56 : BitVec 32 := Scalar.remsi v53 v55
  let c0_i32_43 : BitVec 32 := 0#32
  let v58 : BitVec 1 := Scalar.cmpi .slt v56 c0_i32_43
  let c0_i32_44 : BitVec 32 := 0#32
  let v59 : BitVec 1 := Scalar.cmpi .slt v55 c0_i32_44
  let v60 : BitVec 1 := Scalar.xori v58 v59
  let c0_i32_42 : BitVec 32 := 0#32
  let v57 : BitVec 1 := Scalar.cmpi .ne v56 c0_i32_42
  let v61 : BitVec 1 := Scalar.andi v60 v57
  let v62 : BitVec 32 := Scalar.addi v56 v55
  let v63 : BitVec 32 := Scalar.select v61 v62 v56
  let c1_i32_49 : BitVec 32 := 1#32
  let v64 : BitVec 32 := Scalar.muli v63 c1_i32_49
  let v65 : BitVec 32 := Scalar.addi c0_i32_50 v64
  v65.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_57 : BitVec 32 := 3#32
  let v74 : BitVec 32 := Scalar.addi v2 c3_i32_57
  let c4_i32_58 : BitVec 32 := 4#32
  let c0_i32_59 : BitVec 32 := 0#32
  let v75 : BitVec 1 := Scalar.cmpi .eq c4_i32_58 c0_i32_59
  let c1_i32_60 : BitVec 32 := 1#32
  let v76 : BitVec 32 := Scalar.select v75 c1_i32_60 c4_i32_58
  let v77 : BitVec 32 := Scalar.remsi v74 v76
  let c0_i32_62 : BitVec 32 := 0#32
  let v79 : BitVec 1 := Scalar.cmpi .slt v77 c0_i32_62
  let c0_i32_63 : BitVec 32 := 0#32
  let v80 : BitVec 1 := Scalar.cmpi .slt v76 c0_i32_63
  let v81 : BitVec 1 := Scalar.xori v79 v80
  let c0_i32_61 : BitVec 32 := 0#32
  let v78 : BitVec 1 := Scalar.cmpi .ne v77 c0_i32_61
  let v82 : BitVec 1 := Scalar.andi v81 v78
  let v83 : BitVec 32 := Scalar.addi v77 v76
  let v84 : BitVec 32 := Scalar.select v82 v83 v77
  let c1_i32_68 : BitVec 32 := 1#32
  let v85 : BitVec 32 := Scalar.muli v84 c1_i32_68
  let v86 : BitVec 32 := Scalar.addi c0_i32_69 v85
  v86.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v95 : BitVec 32 := Scalar.addi v2 c2_i32_76
  let c4_i32_77 : BitVec 32 := 4#32
  let c0_i32_78 : BitVec 32 := 0#32
  let v96 : BitVec 1 := Scalar.cmpi .eq c4_i32_77 c0_i32_78
  let c1_i32_79 : BitVec 32 := 1#32
  let v97 : BitVec 32 := Scalar.select v96 c1_i32_79 c4_i32_77
  let v98 : BitVec 32 := Scalar.remsi v95 v97
  let c0_i32_81 : BitVec 32 := 0#32
  let v100 : BitVec 1 := Scalar.cmpi .slt v98 c0_i32_81
  let c0_i32_82 : BitVec 32 := 0#32
  let v101 : BitVec 1 := Scalar.cmpi .slt v97 c0_i32_82
  let v102 : BitVec 1 := Scalar.xori v100 v101
  let c0_i32_80 : BitVec 32 := 0#32
  let v99 : BitVec 1 := Scalar.cmpi .ne v98 c0_i32_80
  let v103 : BitVec 1 := Scalar.andi v102 v99
  let v104 : BitVec 32 := Scalar.addi v98 v97
  let v105 : BitVec 32 := Scalar.select v103 v104 v98
  let c1_i32_87 : BitVec 32 := 1#32
  let v106 : BitVec 32 := Scalar.muli v105 c1_i32_87
  let v107 : BitVec 32 := Scalar.addi c0_i32_88 v106
  v107.toNat
abbrev stage0_0 : Fin 1 → Memref sig .tc .vmem S512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S2048x128 : Shape := ⟨2, ![2048, 128]⟩
abbrev S128x2048 : Shape := ⟨2, ![128, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x128, .bf16⟩
  | .hbm, ⟨2, _⟩ => ⟨S2048x128, .bf16⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S128x2048, .f32⟩
  | .hbm, ⟨7, _⟩ => ⟨S2048x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x128, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.KernelIdealSlots.lean ====
/-
The exchange buffer of the kernel, cut in its four slots, and what the slots hold.

Device `c` keeps in slot `s` the key and value blocks of device `c + s` (mod 4): slot 0 is its own, the others arrive
from its three peers. `KV` gives the contents of the whole buffer once everything has arrived; the lemmas say that the
two stores fill slot 0 with it, that a remote copy of slot 0 fills the peer's slot with it, and what the loads read.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdx
public import Idealize.ShloMosaic.Lib.ValueLayout
public import Idealize.ShloMosaic.Lib.ViewIndex

@[expose] public section

noncomputable section

namespace Cert.KernelIdeal.Attn

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.Sem

variable {F : FTy → Type} [FloatOps F] [Named F]

/-! ## The devices -/

set_option backward.proofsInPublic true in
/-- The device `t` places after `c` on the ring of four. -/
def rot (c : Dev nD) (t : Fin 4) : Dev nD := ⟨(c.val + t.val) % 4, Nat.mod_lt _ (by decide)⟩

/-- No place on is the device itself. -/
theorem rot_zero (c : Dev nD) : rot c 0 = c := by revert c; decide
/-- Going `t` places on and `t` back returns to the device, -/
theorem rot_rot_neg (c : Dev nD) (t : Fin 4) : rot (rot c t) (-t) = c := by revert c t; decide
/-- and so does going back first. -/
theorem rot_neg_rot (c : Dev nD) (t : Fin 4) : rot (rot c (-t)) t = c := by revert c t; decide

/-- The devices the kernel computes for its three signals and its three copies. -/
theorem dev1_eq (c : Dev nD) : (⟨k0_dev1 c, k0_dev1_lt c⟩ : Dev nD) = rot c 1 := by revert c; decide +kernel
/-- The second signal goes to the device two places on. -/
theorem dev2_eq (c : Dev nD) : (⟨k0_dev2 c, k0_dev2_lt c⟩ : Dev nD) = rot c 2 := by revert c; decide +kernel
/-- The third signal goes to the device three places on. -/
theorem dev3_eq (c : Dev nD) : (⟨k0_dev3 c, k0_dev3_lt c⟩ : Dev nD) = rot c 3 := by revert c; decide +kernel
/-- The copy into slot 3 goes to the device three places back. -/
theorem dev4_eq (c : Dev nD) : (⟨k0_dev4 c, k0_dev4_lt c⟩ : Dev nD) = rot c (-3) := by revert c; decide +kernel
/-- The copy into slot 1 goes to the device one place back. -/
theorem dev5_eq (c : Dev nD) : (⟨k0_dev5 c, k0_dev5_lt c⟩ : Dev nD) = rot c (-1) := by revert c; decide +kernel
/-- The copy into slot 2 goes to the device two places back. -/
theorem dev6_eq (c : Dev nD) : (⟨k0_dev6 c, k0_dev6_lt c⟩ : Dev nD) = rot c (-2) := by revert c; decide +kernel

/-! ## The buffers -/

/-- The staging buffer of the queries, -/
abbrev qM : Memref sig .tc .vmem S512x128 .bf16 := Memref.whole cc0_stg0_0
/-- of the keys, -/
abbrev kM : Memref sig .tc .vmem S512x128 .bf16 := Memref.whole cc0_stg1_0
/-- of the values, -/
abbrev vM : Memref sig .tc .vmem S512x128 .bf16 := Memref.whole cc0_stg2_0
/-- of the result, -/
abbrev oM : Memref sig .tc .vmem S512x128 .f32 := Memref.whole cc0_stg3_0
/-- and the exchange buffer of four slots. -/
abbrev xM : Memref sig .tc .vmem S4x2x512x128 .bf16 := Memref.whole cc0_scratch0

/-- A slot lies within the exchange buffer, -/
theorem inb_slot (s : Fin 4) : ∀ a : Fin S4x2x512x128.rank,
    (![s.val, 0, 0, 0] : Fin 4 → Nat) a + S1x2x512x128.size a ≤ S4x2x512x128.size a := by revert s; decide
/-- and so does each half of a slot. -/
theorem inb_half (s : Fin 4) (b : Fin 2) : ∀ a : Fin S4x2x512x128.rank,
    (![s.val, b.val, 0, 0] : Fin 4 → Nat) a + S1x1x512x128.size a ≤ S4x2x512x128.size a := by revert s b; decide

/-- Slot `s` of the exchange buffer as the kernel names it: the rectangle with its leading axis dropped. -/
abbrev slotR (s : Fin 4) : Rect S4x2x512x128 := Rect.unit (s := S4x2x512x128) ![s.val, 0, 0, 0] S1x2x512x128.size (inb_slot s)
/-- The reference of slot `s` that the copies use. -/
abbrev slotM (s : Fin 4) : Memref sig .tc .vmem S2x512x128 .bf16 :=
  (xM.slice (slotR s) (fun _ => rfl)).squeeze S2x512x128 squeezes_S1x2x512x128_S2x512x128
/-- The key half (`b = 0`) or value half (`b = 1`) of slot `s`. -/
abbrev halfR (s : Fin 4) (b : Fin 2) : Rect S4x2x512x128 :=
  Rect.unit (s := S4x2x512x128) ![s.val, b.val, 0, 0] S1x1x512x128.size (inb_half s b)

/-- The elements of slot `s`. -/
def slotSet (s : Fin 4) : Finset (Shape.Idx S4x2x512x128) := Finset.univ.filter fun i => (i 0).val = s.val

/-- An element belongs to slot `s` when its first coordinate is `s`. -/
theorem mem_slotSet {s : Fin 4} {i : Shape.Idx S4x2x512x128} : i ∈ slotSet s ↔ (i 0).val = s.val := by
  simp [slotSet]

/-- An element lies in the slot's view exactly when its first coordinate is the slot's number. -/
theorem set_slotM (s : Fin 4) : (slotM s).view.set = slotSet s := by
  have h : (slotM s).view.set = (slotR s).set :=
    (View.set_reshape ((View.whole (cc0_scratch0 : Ref sig .tc)).slice (slotR s)) (squeezes_S1x2x512x128_S2x512x128).numel_eq).trans
      (View.set_slice_whole (cc0_scratch0 : Ref sig .tc) (slotR s))
  rw [h]
  ext i
  rw [mem_slotSet, Rect.mem_set_unit]
  have h1 : (i 1).val < 2 := (i 1).isLt
  have h2 : (i 2).val < 512 := (i 2).isLt
  have h3 : (i 3).val < 128 := (i 3).isLt
  constructor
  · intro h
    have := h 0
    simp at this
    omega
  · intro h a
    fin_cases a <;> simp <;> omega

/-- A half of slot `s` lies in slot `s`. -/
theorem half_subset (s : Fin 4) (b : Fin 2) : (halfR s b).set ⊆ slotSet s := by
  intro i hi
  rw [Rect.mem_set_unit] at hi
  have := hi 0
  simp at this
  rw [mem_slotSet]; omega

/-- A load of a half touches only its slot, -/
theorem setOn_half (s : Fin 4) (b : Fin 2) : xM.view.setOn (halfR s b).toLoadRect.set ⊆ slotSet s := by
  intro i hi
  obtain ⟨x, hx, rfl⟩ := Finset.mem_map.mp hi
  exact half_subset s b hx
/-- and so does a store. -/
theorem access_half (s : Fin 4) (b : Fin 2) (Mk : Finset (halfR s b).shape.Idx) :
    (xM.access (halfR s b)).setOn Mk ⊆ slotSet s := fun i hi =>
  half_subset s b (by
    have := View.setOn_subset_set _ Mk hi
    rwa [show (xM.access (halfR s b)).set = (halfR s b).set from View.set_slice_whole _ _] at this)

/-- Different slots have no element in common. -/
theorem slot_disjoint {s s' : Fin 4} (h : s ≠ s') : Disjoint (slotSet s) (slotSet s') := by
  refine Finset.disjoint_left.mpr fun i hi hi' => h (Fin.ext ?_)
  rw [mem_slotSet] at hi hi'; omega

/-! ## Contents -/

variable (m : (ℓ : Loc nD τ sig) → Buf (Elt F) ℓ)

/-- Device `c`'s blocks of queries, keys and values. -/
def qblk (c : Dev nD) : Vec F S512x128 .bf16 := (win0_0.blk (0 : Fin 1)).view.read (Elt F) (m ((c : Thread nD τ).loc main_arg0))
/-- Device `c`'s block of keys. -/
def kblk (c : Dev nD) : Vec F S512x128 .bf16 := (win0_1.blk (0 : Fin 1)).view.read (Elt F) (m ((c : Thread nD τ).loc main_arg1))
/-- Device `c`'s block of values. -/
def vblk (c : Dev nD) : Vec F S512x128 .bf16 := (win0_2.blk (0 : Fin 1)).view.read (Elt F) (m ((c : Thread nD τ).loc main_arg2))

/-- Key block (`b = 0`) or value block of device `c`. -/
def half (c : Dev nD) (b : Fin 2) : Vec F S512x128 .bf16 := if b = 0 then kblk m c else vblk m c

/-- What the exchange buffer of device `c` holds in the end: slot `s`, half `b` the block `b` of device `c + s`. -/
def KV (c : Dev nD) : Vec F S4x2x512x128 .bf16 := fun i => half m (rot c (i 0)) (i 1) (ix2 (i 2) (i 3))

/-- A 512×128 block as a 1×1×512×128 array. -/
def lift4 (x : Vec F S512x128 .bf16) : Vec F S1x1x512x128 .bf16 := fun j => x (ix2 (j 2) (j 3))

omit [FloatOps F] [Named F] in
/-- Reshaping a lifted block back gives the block. -/
theorem shapeCast_lift4 (x : Vec F S512x128 .bf16) (h : S1x1x512x128.ShapeCasts S512x128) : shapeCast S512x128 (lift4 x) h = x := by
  funext j
  obtain ⟨a, b, rfl⟩ : ∃ a b, j = ix2 a b := ⟨_, _, (eq_ix2 j)⟩
  refine (shapeCast_apply (lift4 x) h (ix2 a b) (ix4 (0 : Fin 1) (0 : Fin 1) a b) ?_).trans rfl
  rw [Shape.rowMajor_val_four, Shape.rowMajor_val_two]
  show ((0 * 1 + 0) * 512 + a.val) * 128 + b.val = a.val * 128 + b.val
  omega

omit [FloatOps F] [Named F] in
/-- The reshapes before a store into the exchange buffer lift the block. -/
theorem lift4_eq (x : Vec F S512x128 .bf16) (h0 : S512x128.ShapeCasts S512x128) (h : S512x128.ShapeCasts S1x1x512x128) :
    shapeCast S1x1x512x128 (shapeCast S512x128 x h0) h = lift4 x := by
  rw [show shapeCast S512x128 x h0 = x from funext fun j => shapeCast_apply x h0 j j rfl]
  funext j
  refine shapeCast_apply x h _ _ ?_
  rw [Shape.rowMajor_val_four, Shape.rowMajor_val_two]
  show (j 2).val * 128 + (j 3).val = (((j 0).val * 1 + (j 1).val) * 512 + (j 2).val) * 128 + (j 3).val
  have h0 : (j 0).val < 1 := (j 0).isLt
  have h1 : (j 1).val < 1 := (j 1).isLt
  omega

/-- What the first store writes is the lifted block of keys, -/
theorem pay1_eq (x : Vec F S512x128 .bf16) : k0_pay1 x = lift4 x := by unfold k0_pay1; exact lift4_eq x _ _
/-- and what the second writes is the lifted block of values. -/
theorem pay2_eq (x : Vec F S512x128 .bf16) : k0_pay2 x = lift4 x := by unfold k0_pay2; exact lift4_eq x _ _

omit [FloatOps F] [Named F] in
/-- Loading half `b` of slot `s` reads the block of device `c + s`. -/
theorem read_half (c : Dev nD) (s : Fin 4) (b : Fin 2) :
    xM.view.readAt (Elt F) (halfR s b).toLoadRect (KV m c) = lift4 (half m (rot c s) b) := by
  funext j
  have h0 : (j 0).val < 1 := (j 0).isLt
  have h1 : (j 1).val < 1 := (j 1).isLt
  show half m (rot c ((halfR s b).emb j 0)) ((halfR s b).emb j 1) (ix2 ((halfR s b).emb j 2) ((halfR s b).emb j 3)) = half m (rot c s) b (ix2 (j 2) (j 3))
  have e0 : (halfR s b).emb j 0 = s := Fin.ext (by rw [Rect.emb_apply]; show s.val + 1 * (j 0).val = s.val; omega)
  have e1 : (halfR s b).emb j 1 = b := Fin.ext (by rw [Rect.emb_apply]; show b.val + 1 * (j 1).val = b.val; omega)
  have e2 : (halfR s b).emb j 2 = j 2 := Fin.ext (by rw [Rect.emb_apply]; show 0 + 1 * (j 2).val = (j 2).val; omega)
  have e3 : (halfR s b).emb j 3 = j 3 := Fin.ext (by rw [Rect.emb_apply]; show 0 + 1 * (j 3).val = (j 3).val; omega)
  rw [e0, e1, e2, e3]

omit [FloatOps F] [Named F] in
/-- What a store of a block into half `b` of a slot leaves: the block there, -/
theorem write_half_mem (f : Vec F S4x2x512x128 .bf16) (x : Vec F S512x128 .bf16) (s : Fin 4) (b : Fin 2) (i : Shape.Idx S4x2x512x128)
    (h0 : (i 0).val = s.val) (h1 : (i 1).val = b.val) :
    (xM.access (halfR s b)).write (Elt F) f (lift4 x) Finset.univ i = x (ix2 (i 2) (i 3)) := by
  let j : (halfR s b).shape.Idx := ix4 (0 : Fin 1) (0 : Fin 1) (i 2) (i 3)
  have hj : (halfR s b).emb j = i := by
    funext a
    refine Fin.ext ?_
    rw [Rect.emb_apply]
    fin_cases a
    · show s.val + 1 * 0 = (i 0).val; omega
    · show b.val + 1 * 0 = (i 1).val; omega
    · show 0 + 1 * (i 2).val = (i 2).val; omega
    · show 0 + 1 * (i 3).val = (i 3).val; omega
  have := View.write_emb_of_mem (v := xM.access (halfR s b)) (Val := Elt F) f (lift4 x) (Finset.mem_univ j)
  rw [show (xM.access (halfR s b)).emb j = i from hj] at this
  exact this

omit [FloatOps F] [Named F] in
/-- and everything else as it was. -/
theorem write_half_ne (f : Vec F S4x2x512x128 .bf16) (x : Vec F S1x1x512x128 .bf16) (s : Fin 4) (b : Fin 2) (i : Shape.Idx S4x2x512x128)
    (h1 : (i 1).val ≠ b.val) :
    (xM.access (halfR s b)).write (Elt F) f x Finset.univ i = f i := by
  refine View.write_of_not_mem _ _ _ fun hi => h1 ?_
  rw [View.setOn_univ, show (xM.access (halfR s b)).set = (halfR s b).set from View.set_slice_whole _ _, Rect.mem_set_unit] at hi
  have := hi 1
  simp at this
  omega

/-- After the two stores slot 0 holds the device's own blocks. -/
theorem stored (c : Dev nD) (f : Vec F S4x2x512x128 .bf16) : ∀ i ∈ slotSet 0,
    (xM.access (halfR 0 1)).write (Elt F) ((xM.access (halfR 0 0)).write (Elt F) f (k0_pay1 (kblk m c)) Finset.univ) (k0_pay2 (vblk m c)) Finset.univ i
      = KV m c i := by
  intro i hi
  rw [mem_slotSet] at hi
  rw [pay1_eq, pay2_eq]
  have h1 : (i 1).val < 2 := (i 1).isLt
  have hr : rot c (i 0) = c := by rw [show i 0 = (0 : Fin 4) from Fin.ext hi]; exact rot_zero c
  show _ = half m (rot c (i 0)) (i 1) (ix2 (i 2) (i 3))
  rw [hr]
  by_cases h : (i 1).val = 1
  · rw [write_half_mem _ _ 0 1 i hi h, show i 1 = (1 : Fin 2) from Fin.ext h]; rfl
  · have h' : (i 1).val = 0 := by omega
    rw [write_half_ne _ _ 0 1 i h, write_half_mem _ _ 0 0 i hi h', show i 1 = (0 : Fin 2) from Fin.ext h']; rfl

/-- The element of the buffer under an index of slot `s`: the same but for the slot's number in front. -/
theorem slot_emb (s : Fin 4) (x : Shape.Idx S2x512x128) :
    ((slotM s).view.emb x 0).val = s.val ∧ ∀ a : Fin 4, a ≠ 0 → (slotM s).view.emb x a = (slotM 0).view.emb x a := by
  have key (s : Fin 4) : (slotM s).view.emb x = (slotR s).emb (Shape.reshapeEquiv (squeezes_S1x2x512x128_S2x512x128).numel_eq x) := rfl
  generalize hy : (Shape.reshapeEquiv (squeezes_S1x2x512x128_S2x512x128).numel_eq x : Shape.Idx S1x2x512x128) = y at key
  have h0 : (y 0).val < 1 := (y 0).isLt
  refine ⟨?_, fun a ha => Fin.ext ?_⟩
  · rw [key s, Rect.emb_apply]; show s.val + 1 * (y 0).val = s.val; omega
  · rw [key s, key 0, Rect.emb_apply, Rect.emb_apply]
    fin_cases a
    · exact absurd rfl ha
    · rfl
    · rfl
    · rfl

omit [FloatOps F] [Named F] in
/-- A copy of device `c + s`'s slot 0 into slot `s` of device `c` leaves there what `KV` says. -/
theorem landed (c : Dev nD) (s : Fin 4) (f : Vec F S4x2x512x128 .bf16) : ∀ i ∈ slotSet s,
    (slotM s).view.write (Elt F) f ((slotM 0).view.read (Elt F) (KV m (rot c s))) Finset.univ i = KV m c i := by
  intro i hi
  rw [← set_slotM] at hi
  obtain ⟨x, -, rfl⟩ := Finset.mem_map.mp hi
  have := View.write_emb_of_mem (v := (slotM s).view) (Val := Elt F) f ((slotM 0).view.read (Elt F) (KV m (rot c s))) (Finset.mem_univ x)
  refine this.trans ?_
  show half m (rot (rot c s) ((slotM 0).view.emb x 0)) ((slotM 0).view.emb x 1) (ix2 ((slotM 0).view.emb x 2) ((slotM 0).view.emb x 3))
    = half m (rot c ((slotM s).view.emb x 0)) ((slotM s).view.emb x 1) (ix2 ((slotM s).view.emb x 2) ((slotM s).view.emb x 3))
  obtain ⟨a0, a1⟩ := slot_emb s x
  obtain ⟨b0, -⟩ := slot_emb 0 x
  rw [a1 1 (by decide), a1 2 (by decide), a1 3 (by decide), show (slotM s).view.emb x 0 = s from Fin.ext a0,
    show (slotM 0).view.emb x 0 = (0 : Fin 4) from Fin.ext b0, rot_zero]

end Cert.KernelIdeal.Attn

end
-- ==== Proof.KernelIdealProtocol.lean ====
/-
The synchronisation of the kernel: which semaphore grants what.

Every device signals the barrier of its three peers once, handing the peer `d` places on its own slot `d` to write
into; it waits for three signals on its own barrier, and so holds one slot of each peer. It then copies its slot 0 to
the three slots. A copy's receive semaphore grants the device it lands on the filled slot; its send semaphore gives the
sender its share of slot 0 back.
-/
module

public import proofs.«01_k».proof.Proof.KernelIdealSlots
public import Idealize.ShloMosaic.Lib.Tactic

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra -/

/-- The ghost state of the exchange: rounds on the semaphores, with duties numbered by four. -/
abbrev UB : Type := URounds (GSem nD τ sig) (Fin 4)
/-- The whole ghost state: the pipeline's and the exchange's. -/
abbrev UU : Type := UR sig nD τ × UB

local notation "𝕄" => MT nD τ sig Unit (Elt F) ℕ UU ℕ

/-- Where the pipeline's ghost state lies in it, -/
abbrev EP : Emb (UR sig nD τ) (MT nD τ sig Unit (Elt F) ℕ UU ℕ) := embL
/-- and where the exchange's does. -/
abbrev ER : Emb UB (MT nD τ sig Unit (Elt F) ℕ UU ℕ) := embR

variable (m : (ℓ : Loc nD τ sig) → Buf (Elt F) ℓ)

/-! ## The semaphores -/

/-- The barrier semaphore. -/
abbrev barS : Sem sig := (SemArray.scalar (sig.barrier 0 rfl) : Sems sig S_).sem
set_option backward.proofsInPublic true in
/-- The send semaphore of the copy to the device `t` places on. -/
abbrev sendS (t : Fin 4) : DmaSem sig := ⟨4 + t.val, show 4 + t.val < 12 by omega⟩
set_option backward.proofsInPublic true in
/-- The receive semaphore of slot `s`. -/
abbrev recvS (s : Fin 4) : DmaSem sig := ⟨8 + s.val, show 8 + s.val < 12 by omega⟩

/-- The barrier semaphore of device `c`, -/
abbrev barCell (c : Dev nD) : GSem nD τ sig := ((c : Thread nD τ), .reg barS)
/-- its send semaphore `t`, -/
abbrev sendCell (c : Dev nD) (t : Fin 4) : GSem nD τ sig := ((c : Thread nD τ), .dma (sendS t))
/-- and its receive semaphore `s`. -/
abbrev recvCell (c : Dev nD) (s : Fin 4) : GSem nD τ sig := ((c : Thread nD τ), .dma (recvS s))

/-- The kernel's own eight semaphores: the four send semaphores, then the four receive semaphores; -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)
/-- and all nine, the barrier first. -/
abbrev csem : Fin 9 → SemLoc sig := fun
  | 0 => .reg barS
  | 1 => .dma (sendS 0) | 2 => .dma (sendS 1) | 3 => .dma (sendS 2) | 4 => .dma (sendS 3)
  | 5 => .dma (recvS 0) | 6 => .dma (recvS 1) | 7 => .dma (recvS 2) | 8 => .dma (recvS 3)
/-- Semaphore `k` of device `c`, as a pair. -/
abbrev kcell (ck : Dev nD × Fin 9) : GSem nD τ sig := ((ck.1 : Thread nD τ), csem ck.2)

/-- The credit of one copy of a slot. -/
abbrev N : ℕ := (slotM 0).view.dmaCredit
/-- A copy's credit is positive. -/
theorem N_pos : 0 < N := View.dmaCredit_pos _ (by decide)

/-! ## Pieces of the exchange buffer -/

/-- Slot `s` of device `c`'s exchange buffer at share `q`, holding what `f` has there. -/
def slotPts (c : Dev nD) (s : Fin 4) (q : PosShare TreeShare) (f : Vec F S4x2x512x128 .bf16) : sProp 𝕄 :=
  (c : Thread nD τ).loc cc0_scratch0 ↦[slotSet s]{q} f

instance slotPts_storable (c : Dev nD) (s : Fin 4) (q : PosShare TreeShare) (f : Vec F S4x2x512x128 .bf16) :
    BI.Storable (upEmb : UEmb _ 𝕄) (slotPts (F := F) c s q f) := by unfold slotPts; infer_instance

/-- The shares of slot 0: three are lent to the copies, the fourth stays for the loads. -/
abbrev lent : Fin 4 → PosShare TreeShare := fun
  | 0 => fullShare.right.right | 1 => fullShare.left.left | 2 => fullShare.left.right | 3 => fullShare.right.left

/-! ## The schedule -/

/-- What device `c - d` hands device `c` with its signal: its slot `d`, and that its receive semaphore of the slot is
    at its first round. -/
def barPay (c : Dev nD) (d : Fin 4) : sProp 𝕄 :=
  iprop((∃ f, slotPts (rot c (-d)) d fullShare f) ∗ reached ER (recvCell (rot c (-d)) d) 0)
/-- What a completed copy grants the device it lands on: the slot, filled. -/
def recvPay (c : Dev nD) (s : Fin 4) : sProp 𝕄 := slotPts c s fullShare (KV m c)
/-- What a completed copy gives its sender back: the share of slot 0 it was lent. -/
def sendPay (c : Dev nD) (t : Fin 4) : sProp 𝕄 := slotPts c 0 (lent t) (KV m c)

/-- The duties of a semaphore: a barrier's three signals, one copy on each send and receive semaphore in use. -/
def dut : SemLoc sig → Finset (Fin 4)
  | .reg _ => {1, 2, 3}
  | .dma q => if q.val ∈ [5, 6, 7, 9, 10, 11] then {0} else ∅

set_option backward.proofsInPublic true in
/-- One round only: every semaphore's duties fall due in round 0. -/
def rd : Rounds.Schedule (GSem nD τ sig) (Fin 4) 𝕄 where
  duties g r := if r = 0 ∧ g.1.2 = .tc then dut g.2 else ∅
  unitless _ := False
  amount g _ _ := match g.2 with | .reg _ => 1 | .dma _ => N
  payload g _ d := match g.2 with
    | .reg _ => barPay g.1.1 d
    | .dma q => if q.val < 8 then sendPay m g.1.1 ⟨q.val % 4, Nat.mod_lt _ (by decide)⟩
        else recvPay m g.1.1 ⟨q.val % 4, Nat.mod_lt _ (by decide)⟩
  amount_pos g _ _ _ := by
    obtain ⟨t, q | q⟩ := g
    · exact Nat.one_pos
    · exact N_pos

instance rd_payload_storable (g : GSem nD τ sig) (r : ℕ) (d : Fin 4) :
    BI.Storable (upEmb : UEmb _ 𝕄) ((rd (F := F) m).payload g r d) := by
  obtain ⟨t, q | q⟩ := g
  · show BI.Storable upEmb (barPay t.1 d)
    unfold barPay; infer_instance
  · show BI.Storable upEmb (if q.val < 8 then sendPay m t.1 ⟨q.val % 4, Nat.mod_lt _ (by decide)⟩
        else recvPay m t.1 ⟨q.val % 4, Nat.mod_lt _ (by decide)⟩)
    unfold sendPay recvPay
    split <;> infer_instance

section Sched
variable (c : Dev nD)

omit [FloatOps F] [Named F] in
/-- A barrier has three duties: a signal for each offset. -/
theorem duties_bar : (rd (F := F) m).duties (barCell c) 0 = {1, 2, 3} := by dsimp only [rd]; exact if_pos ⟨rfl, rfl⟩
omit [FloatOps F] [Named F] in
/-- A send semaphore in use has one duty, -/
theorem dut_send (t : Fin 4) (ht : t ≠ 0) : dut (.dma (sendS t)) = {0} := by revert t; decide
omit [FloatOps F] [Named F] in
/-- and a receive semaphore in use has one. -/
theorem dut_recv (s : Fin 4) (hs : s ≠ 0) : dut (.dma (recvS s)) = {0} := by revert s; decide
omit [FloatOps F] [Named F] in
/-- The first round of a send semaphore in use has one duty. -/
theorem duties_send (t : Fin 4) (ht : t ≠ 0) : (rd (F := F) m).duties (sendCell c t) 0 = {0} := by
  dsimp only [rd]; rw [if_pos ⟨rfl, rfl⟩]; exact dut_send t ht
omit [FloatOps F] [Named F] in
/-- The first round of a receive semaphore in use has one duty. -/
theorem duties_recv (s : Fin 4) (hs : s ≠ 0) : (rd (F := F) m).duties (recvCell c s) 0 = {0} := by
  dsimp only [rd]; rw [if_pos ⟨rfl, rfl⟩]; exact dut_recv s hs
omit [FloatOps F] [Named F] in
/-- After the first round nothing falls due. -/
theorem duties_later (g : GSem nD τ sig) : ∀ r, 1 ≤ r → (rd (F := F) m).duties g r = ∅ :=
  fun r hr => if_neg fun h => by omega
omit [FloatOps F] [Named F] in
/-- Send semaphore 0 is never used, -/
theorem duties_send0 : ∀ r, 0 ≤ r → (rd (F := F) m).duties (sendCell c 0) r = ∅ := fun r _ => by
  dsimp only [rd]; split <;> rfl
omit [FloatOps F] [Named F] in
/-- nor is receive semaphore 0. -/
theorem duties_recv0 : ∀ r, 0 ≤ r → (rd (F := F) m).duties (recvCell c 0) r = ∅ := fun r _ => by
  dsimp only [rd]; split <;> rfl

omit [FloatOps F] [Named F] in
/-- A barrier expects three units, -/
theorem expect_bar : (rd (F := F) m).expect (barCell c) 0 = 3 := by
  unfold Schedule.expect Schedule.amountOf; rw [duties_bar]; rfl
omit [FloatOps F] [Named F] in
/-- a send semaphore in use the credit of one copy, -/
theorem expect_send (t : Fin 4) (ht : t ≠ 0) : (rd (F := F) m).expect (sendCell c t) 0 = N := by
  unfold Schedule.expect Schedule.amountOf; rw [duties_send m c t ht, Finset.sum_singleton]; rfl
omit [FloatOps F] [Named F] in
/-- and so does a receive semaphore in use. -/
theorem expect_recv (s : Fin 4) (hs : s ≠ 0) : (rd (F := F) m).expect (recvCell c s) 0 = N := by
  unfold Schedule.expect Schedule.amountOf; rw [duties_recv m c s hs, Finset.sum_singleton]; rfl

omit [FloatOps F] [Named F] in
/-- A send semaphore's duty grants the lent share of slot 0. -/
theorem payload_send (t : Fin 4) (d : Fin 4) : (rd (F := F) m).payload (sendCell c t) 0 d = sendPay m c t := by
  dsimp only [rd]
  rw [if_pos (show 4 + t.val < 8 by omega)]
  exact congrArg (sendPay m c) (Fin.ext (show (4 + t.val) % 4 = t.val by omega))
omit [FloatOps F] [Named F] in
/-- A receive semaphore's duty grants the filled slot. -/
theorem payload_recv (s : Fin 4) (d : Fin 4) : (rd (F := F) m).payload (recvCell c s) 0 d = recvPay m c s := by
  dsimp only [rd]
  rw [if_neg (show ¬ 8 + s.val < 8 by omega)]
  exact congrArg (recvPay m c) (Fin.ext (show (8 + s.val) % 4 = s.val by omega))

omit [FloatOps F] [Named F] in
/-- All a barrier's round grants: one slot of each peer. -/
theorem rest_bar : bigSep ((rd (F := F) m).duties (barCell c) 0 \ ∅) (fun d => (rd (F := F) m).payload (barCell c) 0 d)
    = iprop(barPay c 1 ∗ barPay c 2 ∗ barPay c 3) := by
  rw [Finset.sdiff_empty, duties_bar, bigSep_eq_bigSepL_of_eq [(1 : Fin 4), 2, 3] (by decide) (by decide)]; rfl
omit [FloatOps F] [Named F] in
/-- All a send semaphore's round grants is the lent share of slot 0. -/
theorem rest_send (t : Fin 4) (ht : t ≠ 0) :
    bigSep ((rd (F := F) m).duties (sendCell c t) 0 \ ∅) (fun d => (rd (F := F) m).payload (sendCell c t) 0 d) = sendPay m c t := by
  rw [Finset.sdiff_empty, duties_send m c t ht, bigSep_singleton, payload_send]
omit [FloatOps F] [Named F] in
/-- All a receive semaphore's round grants is the filled slot. -/
theorem rest_recv (s : Fin 4) (hs : s ≠ 0) :
    bigSep ((rd (F := F) m).duties (recvCell c s) 0 \ ∅) (fun d => (rd (F := F) m).payload (recvCell c s) 0 d) = recvPay m c s := by
  rw [Finset.sdiff_empty, duties_recv m c s hs, bigSep_singleton, payload_recv]

end Sched

/-! ## What a device owes at launch; the levels -/

/-- The debts of the copies not yet started: of the last, the last two, all three; -/
def R2 (c : Dev nD) : CellTallies nD τ sig Unit := tallyAt (recvCell (rot c (-2)) 2) () N
/-- The debts of the last two copies. -/
def R1 (c : Dev nD) : CellTallies nD τ sig Unit := R2 c + tallyAt (recvCell (rot c (-1)) 1) () N
/-- The debts of all three copies. -/
def R3 (c : Dev nD) : CellTallies nD τ sig Unit := R1 c + tallyAt (recvCell (rot c (-3)) 3) () N
/-- with the signals not yet given. -/
def B3 (c : Dev nD) : CellTallies nD τ sig Unit := R3 c + tallyAt (barCell (rot c 3)) () 1
/-- The debts with the last two signals not yet given. -/
def B2 (c : Dev nD) : CellTallies nD τ sig Unit := B3 c + tallyAt (barCell (rot c 2)) () 1
/-- The debts at launch: three copies and three signals. -/
def O₀ (c : Dev nD) : CellTallies nD τ sig Unit := B2 c + tallyAt (barCell (rot c 1)) () 1

/-- Every semaphore of a tensor core carries one level. -/
def L (g : GSem nD τ sig) : Finset Unit := if g.1.2 = .tc then {()} else ∅
/-- Barriers at level 1, receive semaphores at 2, the rest at 0. -/
def lvs : SemLoc sig → ℕ
  | .reg _ => 1
  | .dma q => if q.val < 8 then 0 else 2
/-- The level of a semaphore, whoever's it is. -/
def lv (g : GSem nD τ sig) (_ : Unit) : ℕ := lvs g.2

/-- Elsewhere there are no levels. -/
theorem L_of_ne (g : GSem nD τ sig) (h : g.1.2 ≠ .tc) : L g = ∅ := if_neg h
/-- A device's semaphore has its one level. -/
theorem L_tc (c : Dev nD) (sm : SemLoc sig) : L ((c : Thread nD τ), sm) = {()} := if_pos rfl
/-- Receive semaphores stand at level 2. -/
theorem lv_recv (c : Dev nD) (s : Fin 4) (u : Unit) : lv (recvCell c s) u = 2 := if_neg (show ¬ 8 + s.val < 8 by omega)

/-- A debt for one semaphore is positive on that semaphore only. -/
theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h
/-- A sum of debts is positive where one of them is. -/
theorem add_pos {a b : CellTallies nD τ sig Unit} {g : GSem nD τ sig} {u : Unit} (h : 0 < (a + b) g u) : 0 < a g u ∨ 0 < b g u := by
  rw [Pi.add_apply, Finsupp.add_apply] at h; omega

/-- The copies' debts are on receive semaphores. -/
theorem R3_pos {c : Dev nD} {g : GSem nD τ sig} {u : Unit} (h : 0 < R3 c g u) : ∃ d s, g = recvCell d s := by
  rcases add_pos h with h | h
  · rcases add_pos h with h | h
    · exact ⟨_, _, tally_pos h⟩
    · exact ⟨_, _, tally_pos h⟩
  · exact ⟨_, _, tally_pos h⟩
/-- The debts at launch are on receive semaphores and barriers. -/
theorem O₀_pos {c : Dev nD} {g : GSem nD τ sig} {u : Unit} (h : 0 < O₀ c g u) : (∃ d s, g = recvCell d s) ∨ ∃ d, g = barCell d := by
  rcases add_pos h with h | h
  · rcases add_pos h with h | h
    · rcases add_pos h with h | h
      · exact Or.inl (R3_pos h)
      · exact Or.inr ⟨_, tally_pos h⟩
    · exact Or.inr ⟨_, tally_pos h⟩
  · exact Or.inr ⟨_, tally_pos h⟩

omit [FloatOps F] [Named F] in
/-- A device may wait on a staging or send semaphore whatever it owes; -/
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, s, rfl⟩ | ⟨d, rfl⟩ <;> exact Finset.mem_singleton_self _)
      (fun p hp => by rw [Finset.mem_singleton.mp hp]; exact (if_pos hq).le)
      (fun g u hg => by
        rcases O₀_pos hg with ⟨d, s, rfl⟩ | ⟨d, rfl⟩
        · rw [lv_recv]; decide
        · exact Nat.one_pos)
  · rw [MayWait_zero]; iintro -; iempintro

omit [FloatOps F] [Named F] in
/-- and on its barrier while it owes copies only. -/
theorem mayWait_bar (c : Dev nD) : (levAts L lv : sProp 𝕄) ⊢ MayWait (c : Thread nD τ) (.reg barS) () (R3 c) :=
  MayOwe.of_cut (L := L) (lev := lv) 1 (fun p hp => by rw [Finset.mem_singleton.mp hp, L_tc]; exact Finset.mem_singleton_self _)
    (fun g u hg => by obtain ⟨d, s, rfl⟩ := R3_pos hg; exact Finset.mem_singleton_self _)
    (fun p hp => by rw [Finset.mem_singleton.mp hp]; exact le_refl 1)
    (fun g u hg => by obtain ⟨d, s, rfl⟩ := R3_pos hg; rw [lv_recv]; decide)

/-! ## The ghost state -/

/-- Known to all: every semaphore's invariant, and that every semaphore is at its first round. -/
def records (K : Dev nD × Fin 9 → ℕ) : sProp 𝕄 :=
  iprop((bigSep Finset.univ fun ck : Dev nD × Fin 9 => cellInv ER (rd m) (K ck) (kcell ck))
    ∗ bigSep Finset.univ fun ck : Dev nD × Fin 9 => reached ER (kcell ck) 0)

instance records_persistent (K : Dev nD × Fin 9 → ℕ) : BI.Persistent (records m K) := by unfold records; infer_instance

omit [FloatOps F] [Named F] in
/-- The records hold every semaphore's invariant, -/
theorem inv_at (K : Dev nD × Fin 9 → ℕ) (ck : Dev nD × Fin 9) : records m K ⊢ cellInv ER (rd m) (K ck) (kcell ck) := by
  unfold records
  iintro ⟨#HI, #HR⟩
  iapply (show (bigSep Finset.univ fun ck : Dev nD × Fin 9 => (cellInv ER (rd m) (K ck) (kcell ck) : sProp 𝕄)) ⊢ cellInv ER (rd m) (K ck) (kcell ck)
    from bigSep_elim (Finset.mem_univ ck))
  iexact HI
omit [FloatOps F] [Named F] in
/-- and that every semaphore has reached its first round. -/
theorem reached_at (K : Dev nD × Fin 9 → ℕ) (ck : Dev nD × Fin 9) : records m K ⊢ reached ER (kcell ck) 0 := by
  unfold records
  iintro ⟨#HI, #HR⟩
  iapply (show (bigSep Finset.univ fun ck : Dev nD × Fin 9 => (reached ER (kcell ck) 0 : sProp 𝕄)) ⊢ reached ER (kcell ck) 0
    from bigSep_elim (Finset.mem_univ ck))
  iexact HR

/-- The tokens of what a device does for offset `t`: its signal to the peer `t` places on, its copy into slot `t` of
    the peer it lands on, and the completion of its copy to the peer `t` places on. -/
def payTok (c : Dev nD) (t : Fin 4) : sProp 𝕄 :=
  iprop(dutyTok ER (barCell (rot c t)) 0 t ∗ dutyTok ER (recvCell (rot c (-t)) t) 0 0 ∗ dutyTok ER (sendCell c t) 0 0)

/-- A device's positions on its nine semaphores and its tokens. -/
def linear (c : Dev nD) : sProp 𝕄 :=
  iprop((bigSep Finset.univ fun k : Fin 9 => atPos ER (kcell (c, k)) 0 ∅ 0) ∗ bigSep Finset.univ fun t : Fin 4 => payTok c t)

/-- The credit a device's waits spend: its barrier's three units and the three arriving copies'. -/
def creds (c : Dev nD) : sProp 𝕄 :=
  iprop(cred (tallyAt (barCell c) () 3) ∗ cred (tallyAt (recvCell c 1) () N) ∗ cred (tallyAt (recvCell c 2) () N) ∗ cred (tallyAt (recvCell c 3) () N))

/-- What a device starts with: the records, its positions and tokens, its credit, the levels. -/
def start (c : Dev nD) : sProp 𝕄 :=
  iprop((∃ K, records m K ∗ linear c) ∗ creds c ∗ levAts L lv)

/-- The whole exchange buffer. -/
def bufPts (c : Dev nD) : sProp 𝕄 := iprop(∃ f : Buf (Elt F) ((c : Thread nD τ).loc cc0_scratch0), ((c : Thread nD τ).loc cc0_scratch0) ↦{fullShare} f)

/-- Before the body: the ghost state and the exchange buffer; -/
def Φ₀ (c : Dev nD) : sProp 𝕄 := iprop(start m c ∗ bufPts c)
/-- after it: the buffer and every semaphore at zero. -/
def Φ₁ (c : Dev nD) : sProp 𝕄 := iprop(bufPts c ∗ bigSep Finset.univ fun k : Fin 9 => semVal (kcell (c, k)) 0)

omit [FloatOps F] [Named F] in
/-- A product over four numbers, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] [Named F] in
/-- A product over nine numbers, written out. -/
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-! ## The slots in the buffer -/

/-- The four slots make up the exchange buffer. -/
theorem slots_union : Finset.univ.biUnion slotSet = (Finset.univ : Finset (Shape.Idx S4x2x512x128)) := by
  ext i
  have : (i 0).val < 4 := (i 0).isLt
  simp only [Finset.mem_biUnion, Finset.mem_univ, true_and, iff_true]
  exact ⟨⟨(i 0).val, this⟩, mem_slotSet.mpr rfl⟩

omit [FloatOps F] [Named F] in
/-- The whole buffer is its four slots. -/
theorem slots_eq (c : Dev nD) (f : Vec F S4x2x512x128 .bf16) :
    (((c : Thread nD τ).loc cc0_scratch0) ↦{fullShare} f : sProp 𝕄)
      = iprop(slotPts c 0 fullShare f ∗ slotPts c 1 fullShare f ∗ slotPts c 2 fullShare f ∗ slotPts c 3 fullShare f) := by
  have h := pointsTo_biUnion (nD := nD) (τ := τ) (sig := sig) (Ix := Unit) (Val := Elt F) (Name := ℕ) (U := UU) (Lvl := ℕ)
    (ℓ := (c : Thread nD τ).loc cc0_scratch0) (q := fullShare) (f := f) (Finset.univ : Finset (Fin 4)) slotSet
    (fun _ _ _ _ hne => slot_disjoint hne)
  rw [slots_union] at h
  rw [← bigSep_fin4 (fun s => slotPts (F := F) c s fullShare f)]
  exact h

end Cert.KernelIdeal.Attn

end
-- ==== Proof.KernelIdealBody.lean ====
/-
The kernel's body, executed symbolically on one device: from the device's ghost state, its three input blocks and its
exchange buffer, to the result block `outAt` and every semaphore back at zero.
-/
module

public import proofs.«01_k».proof.Proof.KernelIdealProtocol

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The result -/

/-- The scaled queries of device `c`, and the key and value blocks it reads from slot `s`. -/
def qs (c : Dev nD) : FVec F S512x128 .bf16 := k0_pay3 (qblk m c)
/-- The block of keys it reads from slot `s`, -/
def ks (c : Dev nD) (s : Fin 4) : Vec F S1x1x512x128 .bf16 := lift4 (half m (rot c s) 0)
/-- and the block of values. -/
def vs (c : Dev nD) (s : Fin 4) : Vec F S1x1x512x128 .bf16 := lift4 (half m (rot c s) 1)

/-- Running maximum, denominator and numerator after the first block (the device's own), -/
def mx1 (c : Dev nD) : FVec F S512x1 .f32 := k0_pay7 (qs m c) (k0_pay4 (F := F)) (ks m c 0)
/-- the denominator, -/
def dn1 (c : Dev nD) : FVec F S512x1 .f32 := k0_pay10 (qs m c) (k0_pay4 (F := F)) (k0_pay5 (F := F)) (ks m c 0)
/-- and the numerator; -/
def nm1 (c : Dev nD) : FVec F S512x128 .f32 := k0_pay11 (qs m c) (k0_pay4 (F := F)) (ks m c 0) (vs m c 0)
/-- after the second (from the device one place on), -/
def mx2 (c : Dev nD) : FVec F S512x1 .f32 := k0_pay13 (qs m c) (mx1 m c) (ks m c 1)
/-- the denominator, -/
def dn2 (c : Dev nD) : FVec F S512x1 .f32 := k0_pay16 (qs m c) (mx1 m c) (dn1 m c) (ks m c 1)
/-- and the numerator; -/
def nm2 (c : Dev nD) : FVec F S512x128 .f32 := k0_pay17 (qs m c) (mx1 m c) (nm1 m c) (ks m c 1) (vs m c 1)
/-- after the third (three places on); -/
def mx3 (c : Dev nD) : FVec F S512x1 .f32 := k0_pay20 (qs m c) (mx2 m c) (k0_pay18 (ks m c 3))
/-- the denominator, -/
def dn3 (c : Dev nD) : FVec F S512x1 .f32 := k0_pay23 (qs m c) (mx2 m c) (dn2 m c) (k0_pay18 (ks m c 3))
/-- and the numerator; -/
def nm3 (c : Dev nD) : FVec F S512x128 .f32 := k0_pay24 (qs m c) (mx2 m c) (nm2 m c) (k0_pay18 (ks m c 3)) (vs m c 3)
/-- the result after the fourth (two places on). -/
def outAt (c : Dev nD) : FVec F S512x128 .f32 :=
  k0_pay26 (qs m c) (mx3 m c) (dn3 m c) (nm3 m c) (k0_pay25 (ks m c 2)) (vs m c 2)

/-! ## The pipeline's proof data -/

/-- The only step of the grid. -/
def t₀ : Fin cfg0.N := t0_0

/-- The pipeline's data: what each staging buffer holds after the body, the state before and after it, the debts. -/
def dats (_ : Fin 1) (c : Dev nD) : Dat τ (Elt F) Unit ℕ UU ℕ cfg0 c where
  A w := m ((cfg0.win w).arr.view.loc (c : Thread nD τ))
  after w _ := match w with
    | ⟨0, _⟩ => qblk m c
    | ⟨1, _⟩ => kblk m c
    | ⟨2, _⟩ => vblk m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- No loop of the body needs a variant. -/
abbrev 𝒱₀ : Variants := Variants.none

/-- Owning a whole buffer with contents `X` is a points-to whose contents are `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## One lemma per kind of step -/

section Steps

variable (K : Dev nD × Fin 9 → ℕ)

/-- A piece of slot `s` seen through the kernel's name for the slot. -/
theorem slotPts_eq (c : Dev nD) (s : Fin 4) (q : PosShare TreeShare) (f : Vec F S4x2x512x128 .bf16) :
    slotPts c s q f = ((slotM s).view.loc (c : Thread nD τ) ↦[(slotM s).view.set]{q} f : sProp 𝕄) := by
  unfold slotPts; rw [set_slotM]

/-- The signal to the peer `d` places on, handing it slot `d`. -/
theorem step_signal (c n : Dev nD) (d : Fin 4) (hd : d ∈ ({1, 2, 3} : Finset (Fin 4))) (hn : n = rot c d) (k9 : Fin 9)
    (hk9 : csem k9 = .dma (recvS d)) (O' : CellTallies nD τ sig Unit) (W : Waits sig Unit)
    {α : Type} {Q : α → sProp 𝕄} {k : PUnit → Prog (TpuEff nD τ sig (Elt F) Λ₀ .tc) α} :
    iprop(records m K ∗ owes (c : Thread nD τ) (O' + tallyAt (barCell (rot c d)) () 1) W ∗ dutyTok ER (barCell (rot c d)) 0 d
        ∗ ∃ f, slotPts c d fullShare f)
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS 1) k) Q) := by
  subst hn
  iintro ⟨#HR, HO, Ht, ⟨%f, Hs⟩⟩ Hk
  iapply (Rounds.wp_signal 𝒱₀ ER (rd m) (c : Thread nD τ) none (dst := (rot c d : Thread nD τ)) (κ := K (rot c d, 0))
      (d := d) (by rw [duties_bar]; exact hd) rfl () O' rfl) $$ [HO Ht Hs]
  · isplitr; · iapply (inv_at m K (rot c d, 0)); iexact HR
    isplitl [HO]; · iexact HO
    isplitl [Ht]; · iexact Ht
    isplitl [Hs]
    · iapply (show iprop((∃ f, slotPts (F := F) (rot (rot c d) (-d)) d fullShare f) ∗ reached ER (recvCell (rot (rot c d) (-d)) d) 0)
        ⊢ (rd m).payload (barCell (rot c d)) 0 d from BI.Entails.refl _)
      rw [rot_rot_neg]
      isplitl [Hs]; · iexists f; iexact Hs
      iapply ((reached_at m K (c, k9)).trans (Entails.of_eq (by rw [show kcell (c, k9) = recvCell c d from Prod.ext rfl hk9]))); iexact HR
    · iapply (reached_at m K (rot c d, 0)); iexact HR
  iexact Hk

/-- The copy of slot 0 into slot `s` of the peer it is meant for (`s` places before). -/
theorem step_copy (c n : Dev nD) (s : Fin 4) (hs : s ≠ 0) (hn : n = rot c (-s)) (ks kr : Fin 9)
    (hks : csem ks = .dma (sendS (-s))) (hkr : csem kr = .dma (recvS s)) (O' : CellTallies nD τ sig Unit) (W : Waits sig Unit)
    {hsc : (slotM s : Memref sig (Dev.tc n : Thread nD τ).2.kind .vmem S2x512x128 .bf16).view.ref.isScScratch = false}
    {hsrc : (slotM 0).view.WordExact} {hdst : (slotM s : Memref sig (Dev.tc n : Thread nD τ).2.kind .vmem S2x512x128 .bf16).view.WordExact}
    {hsem : DmaTarget.Typed .vmem (.dma (recvS s)) (.remote (Dev.tc n : Thread nD τ) (slotM s) (.dma (sendS (-s))) hsc)}
    {α : Type} {Q : α → sProp 𝕄} {k : PUnit → Prog (TpuEff nD τ sig (Elt F) Λ₀ .tc) α} :
    iprop(records m K ∗ slotPts c 0 (lent (-s)) (KV m c) ∗ barPay c s
        ∗ owes (c : Thread nD τ) (O' + tallyAt (recvCell (rot c (-s)) s) () N) W
        ∗ dutyTok ER (sendCell c (-s)) 0 0 ∗ dutyTok ER (recvCell (rot c (-s)) s) 0 0)
      ⊢ iprop(((cred (tallyAt (sendCell c (-s)) () N) ∗ owes (c : Thread nD τ) O' W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM s) (.dma (sendS (-s))) hsc) (.dma (recvS s)) hsrc hdst hsem) k) Q) := by
  subst hn
  have hns : -s ≠ 0 := neg_ne_zero.mpr hs
  unfold barPay
  iintro ⟨#HR, Hs0, ⟨⟨%fd, Hd⟩, #Hrr⟩, HO, HtS, HtV⟩ Hk
  ihave Hs0 := (Entails.of_eq (slotPts_eq c 0 (lent (-s)) (KV m c))) $$ Hs0
  ihave Hd := (Entails.of_eq (slotPts_eq (rot c (-s)) s fullShare fd)) $$ Hd
  iapply (Rounds.wp_send_pointsTo 𝒱₀ ER (rd m) (c : Thread nD τ) none (κ₁ := K (c, ks)) (κ₂ := K (rot c (-s), kr))
    (r₁ := 0) (r₂ := 0) (d₁ := 0) (d₂ := 0) (fd := fd)
    (by rw [duties_send m c _ hns]; exact Finset.mem_singleton_self _) (by rw [duties_recv m _ s hs]; exact Finset.mem_singleton_self _)
    () () N rfl rfl rfl O' rfl (W := W)
    (by rw [payload_send]; unfold sendPay; rw [slotPts_eq])
    (by
      rw [payload_recv]; unfold recvPay slotPts
      rw [set_slotM]
      refine Entails.of_eq (pointsTo_congr fun i hi => ?_)
      have := landed m (rot c (-s)) s fd i hi
      rw [rot_neg_rot] at this
      exact this)) $$ [Hs0 Hd HO HtS HtV]
  · isplitr; · iapply ((inv_at m K (c, ks)).trans (Entails.of_eq (by rw [show kcell (c, ks) = sendCell c (-s) from Prod.ext rfl hks]))); iexact HR
    isplitr; · iapply ((inv_at m K (rot c (-s), kr)).trans (Entails.of_eq (by rw [show kcell (rot c (-s), kr) = recvCell (rot c (-s)) s from Prod.ext rfl hkr]))); iexact HR
    isplitl [Hs0]; · iexact Hs0
    isplitl [Hd]; · iexact Hd
    isplitl [HO]; · iexact HO
    isplitl [HtS]; · iexact HtS
    isplitr; · iapply ((reached_at m K (c, ks)).trans (Entails.of_eq (by rw [show kcell (c, ks) = sendCell c (-s) from Prod.ext rfl hks]))); iexact HR
    isplitl [HtV]; · iexact HtV
    iexact Hrr
  iexact Hk

/-- The wait for the copy into slot `s`: the slot, filled. -/
theorem step_recv (c : Dev nD) (s : Fin 4) (hs : s ≠ 0) (kr : Fin 9) (hkr : csem kr = .dma (recvS s)) (W : Waits sig Unit)
    {src dst : Memref sig .tc .vmem S2x512x128 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records m K ∗ cred (tallyAt (recvCell c s) () N) ∗ owes (c : Thread nD τ) 0 W ∗ atPos ER (recvCell c s) 0 ∅ 0)
      ⊢ iprop(((owes (c : Thread nD τ) 0 (insert (SemLoc.dma (recvS s), ()) W) ∗ atPos ER (recvCell c s) 1 ∅ 0 ∗ slotPts c s fullShare (KV m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s) src dst hsrc hdst) k) Q) := by
  iintro ⟨#HR, Hc, HO, Ha⟩ Hk
  iapply (Rounds.wp_wait_rest_token 𝒱₀ ER (rd m) (c : Thread nD τ) none (κ := K (c, kr))
      (wpE_waitDma2_eq 𝒱₀ (c : Thread nD τ) none Set.univ) (Set.mem_univ _) () (O := 0) (W := W) (R := 0) (m := 0) (T := ∅)
      (by rw [Nat.zero_add, expect_recv m c s hs, hN])) $$ [Hc HO Ha]
  · isplitr; · iapply ((inv_at m K (c, kr)).trans (Entails.of_eq (by rw [show kcell (c, kr) = recvCell c s from Prod.ext rfl hkr]))); iexact HR
    isplitl [Hc]; · rw [hN]; iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iapply (Entails.of_eq (show _ = slotPts c s fullShare (KV m c) from rest_recv m c s hs)); iexact Hp

/-- The wait for the completion of the copy `t`: the share of slot 0 it was lent. -/
theorem step_sent (c : Dev nD) (t : Fin 4) (ht : t ≠ 0) (kr : Fin 9) (hkr : csem kr = .dma (sendS t)) (W : Waits sig Unit)
    {src dst : Memref sig .tc .vmem S2x512x128 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records m K ∗ cred (tallyAt (sendCell c t) () N) ∗ owes (c : Thread nD τ) 0 W ∗ atPos ER (sendCell c t) 0 ∅ 0)
      ⊢ iprop(((owes (c : Thread nD τ) 0 (insert (SemLoc.dma (sendS t), ()) W) ∗ atPos ER (sendCell c t) 1 ∅ 0 ∗ slotPts c 0 (lent t) (KV m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS t) src dst hsrc hdst) k) Q) := by
  iintro ⟨#HR, Hc, HO, Ha⟩ Hk
  iapply (Rounds.wp_wait_rest_token 𝒱₀ ER (rd m) (c : Thread nD τ) none (κ := K (c, kr))
      (wpE_waitDma2_eq 𝒱₀ (c : Thread nD τ) none Set.univ) (Set.mem_univ _) () (O := 0) (W := W) (R := 0) (m := 0) (T := ∅)
      (by rw [Nat.zero_add, expect_send m c t ht, hN])) $$ [Hc HO Ha]
  · isplitr; · iapply ((inv_at m K (c, kr)).trans (Entails.of_eq (by rw [show kcell (c, kr) = sendCell c t from Prod.ext rfl hkr]))); iexact HR
    isplitl [Hc]; · rw [hN]; iexact Hc
    isplitl [HO]; · iexact HO
    isplitr; · rw [MayWait_zero]; iempintro
    iexact Ha
  iintro ⟨HO, Ha, -, Hp⟩
  iapply Hk
  isplitl [HO]; · iexact HO
  isplitl [Ha]; · iexact Ha
  iapply (Entails.of_eq (show _ = slotPts c 0 (lent t) (KV m c) from rest_send m c t ht)); iexact Hp

/-- The load of half `b` of slot `s`, once filled. -/
theorem step_load (c : Dev nD) (s : Fin 4) (b : Fin 2) (q : PosShare TreeShare)
    {hl : xM.view.LoadsAt (halfR s b).toLoadRect}
    {α : Type} {Q : α → sProp 𝕄} {k : Vec F S1x1x512x128 .bf16 → Prog (TpuEff nD τ sig (Elt F) Λ₀ .tc) α} :
    slotPts c s q (KV m c)
      ⊢ iprop((slotPts c s q (KV m c) -∗ wp frame (wpE (defs₀ (F := F)) 𝒱₀ (c : Thread nD τ) none) Set.univ (k (lift4 (half m (rot c s) b))) Q)
          -∗ wp frame (wpE (defs₀ (F := F)) 𝒱₀ (c : Thread nD τ) none) Set.univ (.op (.load xM (halfR s b).toLoadRect hl) k) Q) := by
  rw [← read_half m c s b]
  exact wp_load 𝒱₀ (c : Thread nD τ) none Set.univ (m := xM) (setOn_half s b)

end Steps

end Cert.KernelIdeal.Attn

end
-- ==== Proof.KernelIdealParts.lean ====
/-
The kernel's body, executed symbolically on one device, printed part by printed part: from the device's ghost state, its
three input blocks and its exchange buffer, to the result block `outAt` and every semaphore back at zero.
-/
module

public import proofs.«01_k».proof.Proof.KernelIdealBody

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 9 → ℕ)

/-- A staging buffer held whole. -/
abbrev buf (c : Dev nD) (b : Ref sig .tc) (X : Buf (Elt F) ((c : Thread nD τ).loc b)) : sProp 𝕄 := ((c : Thread nD τ).loc b) ↦{fullShare} X

/-- The rectangle that is all of a 512×128 block. -/
abbrev r0 : Rect S512x128 := Rect.unit (s := S512x128) ![0, 0] S512x128.size inb_S512x128_S512x128_0_0

/-- The offsets of that rectangle are zero. -/
theorem hz : (![0, 0] : Fin 2 → Nat) = fun _ => 0 := funext fun a => by fin_cases a <;> rfl

/-- A load of all of the queries' buffer reads what it holds, -/
theorem read_q (f : Vec F S512x128 .bf16) : qM.view.readAt (Elt F) r0.toLoadRect f = f := Memref.readAt_unit_zero (Elt F) cc0_stg0_0 hz _ f
/-- so does one of the keys', -/
theorem read_k (f : Vec F S512x128 .bf16) : kM.view.readAt (Elt F) r0.toLoadRect f = f := Memref.readAt_unit_zero (Elt F) cc0_stg1_0 hz _ f
/-- and one of the values'. -/
theorem read_v (f : Vec F S512x128 .bf16) : vM.view.readAt (Elt F) r0.toLoadRect f = f := Memref.readAt_unit_zero (Elt F) cc0_stg2_0 hz _ f
/-- A store into all of the result's buffer leaves what was stored. -/
theorem write_out (f w : Vec F S512x128 .f32) : (oM.access r0 : View sig .tc _ _ _).write (Elt F) f w Finset.univ = w :=
  Memref.write_access_unit_zero_univ (Elt F) cc0_stg3_0 hz _ f w

/-- The first part computes words only. -/
theorem part1_spec (c : Dev nD) {Q : _ → sProp 𝕄} :
    iprop(∀ v2, ∀ v13, ∀ v24, ∀ v35, Q ⟨c, v2, v13, v24, v35⟩)
      ⊢ wp frame (wpE (defs₀ (F := F)) 𝒱₀ c none) Set.univ
          (k0_part1 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Q := by
  rw [k0_part1_eq_skeleton]; unfold k0_part1_skel
  simp only [Prog.lift, Prog.bind_op, Prog.bind_ret, Prog.pure_eq_ret, wp_deviceId, wp_ret]
  iintro H
  imodintro
  iapply H

set_option maxHeartbeats 800000 in
/-- The second part: the three signals, the wait for the three peers, and the device's own blocks stored in slot 0. -/
theorem part2_spec (c : Dev nD) (v2 v13 v24 v35 : BitVec 32) (W : Waits sig Unit) (f0 : Vec F S4x2x512x128 .bf16) {Q : _ → sProp 𝕄} :
    iprop((records m K ∗ levAts L lv ∗ owes (c : Thread nD τ) (O₀ c) W ∗ cred (tallyAt (barCell c) () 3) ∗ atPos ER (barCell c) 0 ∅ 0
          ∗ dutyTok ER (barCell (rot c 1)) 0 1 ∗ dutyTok ER (barCell (rot c 2)) 0 2 ∗ dutyTok ER (barCell (rot c 3)) 0 3
          ∗ slotPts c 0 fullShare f0 ∗ slotPts c 1 fullShare f0 ∗ slotPts c 2 fullShare f0 ∗ slotPts c 3 fullShare f0
          ∗ buf c cc0_stg1_0 (kblk m c) ∗ buf c cc0_stg2_0 (vblk m c))
        ∗ ∀ r, (owes (c : Thread nD τ) (R3 c) (insert (SemLoc.reg barS, ()) W) ∗ atPos ER (barCell c) 1 ∅ 0
          ∗ barPay c 1 ∗ barPay c 2 ∗ barPay c 3 ∗ slotPts c 0 fullShare (KV m c)
          ∗ buf c cc0_stg1_0 (kblk m c) ∗ buf c cc0_stg2_0 (vblk m c)) -∗ Q r)
      ⊢ wp frame (wpE (defs₀ (F := F)) 𝒱₀ c none) Set.univ
          (k0_part2 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 c v2 v13 v24 v35) Q := by
  rw [k0_part2_eq_skeleton]; unfold k0_part2_skel
  simp only [semSignalWord, semWaitWord, Prog.lift, Prog.bind_op, Prog.bind_ret, Prog.pure_eq_ret]
  iintro ⟨⟨#HR, #Hlev, HO, HcB, HaB, Ht1, Ht2, Ht3, Hs0, Hs1, Hs2, Hs3, Hkk, Hv⟩, Hk⟩
  unfold O₀
  iapply (step_signal m K c _ 1 (by decide) (dev1_eq c) 6 rfl (B2 c) W) $$ [HO Ht1 Hs1]
  · isplitr; · iexact HR
    isplitl [HO]; · iexact HO
    isplitl [Ht1]; · iexact Ht1
    iexists f0; iexact Hs1
  iintro HO
  unfold B2
  iapply (step_signal m K c _ 2 (by decide) (dev2_eq c) 7 rfl (B3 c) W) $$ [HO Ht2 Hs2]
  · isplitr; · iexact HR
    isplitl [HO]; · iexact HO
    isplitl [Ht2]; · iexact Ht2
    iexists f0; iexact Hs2
  iintro HO
  unfold B3
  iapply (step_signal m K c _ 3 (by decide) (dev3_eq c) 8 rfl (R3 c) W) $$ [HO Ht3 Hs3]
  · isplitr; · iexact HR
    isplitl [HO]; · iexact HO
    isplitl [Ht3]; · iexact Ht3
    iexists f0; iexact Hs3
  iintro HO
  iapply (Rounds.wp_wait_rest_token 𝒱₀ ER (rd m) (c : Thread nD τ) none (κ := K (c, 0))
      (wpE_semWait_eq 𝒱₀ (c : Thread nD τ) none Set.univ) (Set.mem_univ _) () (O := R3 c) (W := W) (R := 0) (m := 0) (T := ∅)
      (by rw [expect_bar]; decide)) $$ [HcB HO HaB]
  · isplitr; · iapply (inv_at m K (c, 0)); iexact HR
    isplitl [HcB]; · iexact HcB
    isplitl [HO]; · iexact HO
    isplitr; · iapply (mayWait_bar c); iexact Hlev
    iexact HaB
  iintro ⟨HO, HaB, -, Hp⟩
  ihave Hp := (Entails.of_eq (rest_bar m c)) $$ Hp
  icases Hp with ⟨Hp1, Hp2, Hp3⟩
  iapply (wp_load 𝒱₀ (c : Thread nD τ) none Set.univ (m := kM) (Finset.subset_univ _)) $$ Hkk; iintro Hkk
  rw [read_k]
  unfold slotPts
  iapply (wp_load 𝒱₀ (c : Thread nD τ) none Set.univ (m := xM) (setOn_half 0 0)) $$ Hs0; iintro Hs0
  iapply (wp_store 𝒱₀ (c : Thread nD τ) none Set.univ (m := xM) (r := halfR 0 0) (Mk := Finset.univ) (access_half 0 0 _)) $$ Hs0; iintro Hs0
  iapply (wp_load 𝒱₀ (c : Thread nD τ) none Set.univ (m := vM) (Finset.subset_univ _)) $$ Hv; iintro Hv
  rw [read_v]
  iapply (wp_load 𝒱₀ (c : Thread nD τ) none Set.univ (m := xM) (setOn_half 0 1)) $$ Hs0; iintro Hs0
  iapply (wp_store 𝒱₀ (c : Thread nD τ) none Set.univ (m := xM) (r := halfR 0 1) (Mk := Finset.univ) (access_half 0 1 _)) $$ Hs0; iintro Hs0
  ihave Hs0 := (Entails.of_eq (pointsTo_congr (stored m c f0))) $$ Hs0
  rw [wp_ret]; imodintro
  iapply Hk
  isplitl [HO]; · iexact HO
  isplitl [HaB]; · iexact HaB
  isplitl [Hp1]; · iexact Hp1
  isplitl [Hp2]; · iexact Hp2
  isplitl [Hp3]; · iexact Hp3
  isplitl [Hs0]; · iexact Hs0
  isplitl [Hkk] <;> iassumption

/-- The third part: the copy into slot 3 of the next device. -/
theorem part3_spec (c : Dev nD) (v2 v55 v56 : BitVec 32) (v57 v58 v59 : BitVec 1) (W : Waits sig Unit) {Q : _ → sProp 𝕄} :
    iprop((records m K ∗ slotPts c 0 (lent 1) (KV m c) ∗ barPay c 3 ∗ owes (c : Thread nD τ) (R3 c) W
          ∗ dutyTok ER (sendCell c 1) 0 0 ∗ dutyTok ER (recvCell (rot c (-3)) 3) 0 0)
        ∗ ((cred (tallyAt (sendCell c 1) () N) ∗ owes (c : Thread nD τ) (R1 c) W) -∗ Q ⟨⟩))
      ⊢ wp frame (wpE (defs₀ (F := F)) 𝒱₀ c none) Set.univ
          (k0_part3 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 c v2 v55 v56 v57 v58 v59) Q := by
  rw [k0_part3_eq_skeleton]; unfold k0_part3_skel
  simp only [Prog.lift, Prog.bind_op, Prog.bind_ret, Prog.pure_eq_ret]
  iintro ⟨⟨#HR, Hs, Hp, HO, HtS, HtV⟩, Hk⟩
  unfold R3
  iapply (step_copy m K c _ 3 (by decide) (dev4_eq c) 2 8 rfl rfl (R1 c) W) $$ [Hs Hp HO HtS HtV]
  · isplitr; · iexact HR
    isplitl [Hs]; · iexact Hs
    isplitl [Hp]; · iexact Hp
    isplitl [HO]; · iexact HO
    isplitl [HtS] <;> iassumption
  iintro H
  rw [wp_ret]; imodintro
  iapply Hk; iexact H

/-- The fourth part: the copies into slot 1 of the device before and slot 2 of the device across, and the queries loaded. -/
theorem part4_spec (c : Dev nD) (v2 : BitVec 32) (W : Waits sig Unit) {Q : _ → sProp 𝕄} :
    iprop((records m K ∗ slotPts c 0 (lent 3) (KV m c) ∗ slotPts c 0 (lent 2) (KV m c) ∗ barPay c 1 ∗ barPay c 2 ∗ owes (c : Thread nD τ) (R1 c) W
          ∗ dutyTok ER (sendCell c 3) 0 0 ∗ dutyTok ER (recvCell (rot c (-1)) 1) 0 0
          ∗ dutyTok ER (sendCell c 2) 0 0 ∗ dutyTok ER (recvCell (rot c (-2)) 2) 0 0 ∗ buf c cc0_stg0_0 (qblk m c))
        ∗ ((cred (tallyAt (sendCell c 3) () N) ∗ cred (tallyAt (sendCell c 2) () N) ∗ owes (c : Thread nD τ) 0 W ∗ buf c cc0_stg0_0 (qblk m c))
            -∗ Q ⟨qs m c, k0_pay4 (F := F), k0_pay5 (F := F)⟩))
      ⊢ wp frame (wpE (defs₀ (F := F)) 𝒱₀ c none) Set.univ
          (k0_part4 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 c v2) Q := by
  rw [k0_part4_eq_skeleton]; unfold k0_part4_skel
  simp only [Prog.lift, Prog.bind_op, Prog.bind_ret, Prog.pure_eq_ret]
  iintro ⟨⟨#HR, Hs3, Hs2, Hp1, Hp2, HO, HtS3, HtV1, HtS2, HtV2, Hq⟩, Hk⟩
  unfold R1 qs
  iapply (step_copy m K c _ 1 (by decide) (dev5_eq c) 4 6 rfl rfl (R2 c) W) $$ [Hs3 Hp1 HO HtS3 HtV1]
  · isplitr; · iexact HR
    isplitl [Hs3]; · iexact Hs3
    isplitl [Hp1]; · iexact Hp1
    isplitl [HO]; · iexact HO
    isplitl [HtS3] <;> iassumption
  iintro ⟨Hc3, HO⟩
  ihave HO := (Entails.of_eq (show owes (c : Thread nD τ) (R2 c) W = owes (c : Thread nD τ) (0 + tallyAt (recvCell (rot c (-2)) 2) () N) W from by
    rw [zero_add]; rfl)) $$ HO
  iapply (step_copy m K c _ 2 (by decide) (dev6_eq c) 3 7 rfl rfl 0 W) $$ [Hs2 Hp2 HO HtS2 HtV2]
  · isplitr; · iexact HR
    isplitl [Hs2]; · iexact Hs2
    isplitl [Hp2]; · iexact Hp2
    isplitl [HO]; · iexact HO
    isplitl [HtS2] <;> iassumption
  iintro ⟨Hc2, HO⟩
  iapply (wp_load 𝒱₀ (c : Thread nD τ) none Set.univ (m := qM) (Finset.subset_univ _)) $$ Hq; iintro Hq
  rw [read_q, wp_ret]; imodintro
  iapply Hk
  isplitl [Hc3]; · iexact Hc3
  isplitl [Hc2]; · iexact Hc2
  isplitl [HO]; · iexact HO
  iexact Hq

/-- The fifth part: slot 0 read, and the wait for slot 1. -/
theorem part5_spec (c : Dev nD) (v2 : BitVec 32) (W : Waits sig Unit) {Q : _ → sProp 𝕄} :
    iprop((records m K ∗ slotPts c 0 (lent 0) (KV m c) ∗ cred (tallyAt (recvCell c 1) () N) ∗ owes (c : Thread nD τ) 0 W ∗ atPos ER (recvCell c 1) 0 ∅ 0)
        ∗ ((slotPts c 0 (lent 0) (KV m c) ∗ owes (c : Thread nD τ) 0 (insert (SemLoc.dma (recvS 1), ()) W) ∗ atPos ER (recvCell c 1) 1 ∅ 0 ∗ slotPts c 1 fullShare (KV m c)) -∗ Q ⟨mx1 m c, dn1 m c, nm1 m c⟩))
      ⊢ wp frame (wpE (defs₀ (F := F)) 𝒱₀ c none) Set.univ
          (k0_part5 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 v2 (qs m c) (k0_pay4 (F := F)) (k0_pay5 (F := F))) Q := by
  rw [k0_part5_eq_skeleton]; unfold k0_part5_skel mx1 dn1 nm1 ks vs
  simp only [Prog.lift, Prog.bind_op, Prog.bind_ret, Prog.pure_eq_ret]
  iintro ⟨⟨#HR, Hs0, Hc, HO, Ha⟩, Hk⟩
  iapply (step_load m c 0 0 _) $$ Hs0; iintro Hs0
  iapply (step_load m c 0 1 _) $$ Hs0; iintro Hs0
  iapply (step_recv m K c 1 (by decide) 6 rfl W (dst := slotM 1) rfl) $$ [Hc HO Ha]
  · isplitr; · iexact HR
    isplitl [Hc]; · iexact Hc
    isplitl [HO] <;> iassumption
  iintro ⟨HO, Ha, Hs1⟩
  rw [wp_ret]; imodintro
  iapply Hk
  isplitl [Hs0]; · iexact Hs0
  isplitl [HO]; · iexact HO
  isplitl [Ha]; · iexact Ha
  iexact Hs1

/-- The sixth part: slot 1 read, the wait for slot 3, and its keys read. -/
theorem part6_spec (c : Dev nD) (v2 : BitVec 32) (W : Waits sig Unit) {Q : _ → sProp 𝕄} :
    iprop((records m K ∗ slotPts c 1 fullShare (KV m c) ∗ cred (tallyAt (recvCell c 3) () N) ∗ owes (c : Thread nD τ) 0 W ∗ atPos ER (recvCell c 3) 0 ∅ 0)
        ∗ ((slotPts c 1 fullShare (KV m c) ∗ owes (c : Thread nD τ) 0 (insert (SemLoc.dma (recvS 3), ()) W) ∗ atPos ER (recvCell c 3) 1 ∅ 0 ∗ slotPts c 3 fullShare (KV m c)) -∗ Q ⟨mx2 m c, dn2 m c, nm2 m c, k0_pay18 (ks m c 3)⟩))
      ⊢ wp frame (wpE (defs₀ (F := F)) 𝒱₀ c none) Set.univ
          (k0_part6 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 v2 (qs m c) (mx1 m c) (dn1 m c) (nm1 m c)) Q := by
  rw [k0_part6_eq_skeleton]; unfold k0_part6_skel mx2 dn2 nm2 ks vs
  simp only [Prog.lift, Prog.bind_op, Prog.bind_ret, Prog.pure_eq_ret]
  iintro ⟨⟨#HR, Hs1, Hc, HO, Ha⟩, Hk⟩
  iapply (step_load m c 1 0 _) $$ Hs1; iintro Hs1
  iapply (step_load m c 1 1 _) $$ Hs1; iintro Hs1
  iapply (step_recv m K c 3 (by decide) 8 rfl W (dst := slotM 3) rfl) $$ [Hc HO Ha]
  · isplitr; · iexact HR
    isplitl [Hc]; · iexact Hc
    isplitl [HO] <;> iassumption
  iintro ⟨HO, Ha, Hs3⟩
  iapply (step_load m c 3 0 _) $$ Hs3; iintro Hs3
  rw [wp_ret]; imodintro
  iapply Hk
  isplitl [Hs1]; · iexact Hs1
  isplitl [HO]; · iexact HO
  isplitl [Ha]; · iexact Ha
  iexact Hs3

/-- The seventh part: the values of slot 3 read, the wait for slot 2, and its keys read. -/
theorem part7_spec (c : Dev nD) (v2 : BitVec 32) (W : Waits sig Unit) {Q : _ → sProp 𝕄} :
    iprop((records m K ∗ slotPts c 3 fullShare (KV m c) ∗ cred (tallyAt (recvCell c 2) () N) ∗ owes (c : Thread nD τ) 0 W ∗ atPos ER (recvCell c 2) 0 ∅ 0)
        ∗ ((slotPts c 3 fullShare (KV m c) ∗ owes (c : Thread nD τ) 0 (insert (SemLoc.dma (recvS 2), ()) W) ∗ atPos ER (recvCell c 2) 1 ∅ 0 ∗ slotPts c 2 fullShare (KV m c)) -∗ Q ⟨mx3 m c, dn3 m c, nm3 m c, k0_pay25 (ks m c 2)⟩))
      ⊢ wp frame (wpE (defs₀ (F := F)) 𝒱₀ c none) Set.univ
          (k0_part7 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 v2 (qs m c) (mx2 m c) (dn2 m c) (nm2 m c) (k0_pay18 (ks m c 3))) Q := by
  rw [k0_part7_eq_skeleton]; unfold k0_part7_skel mx3 dn3 nm3 ks vs
  simp only [Prog.lift, Prog.bind_op, Prog.bind_ret, Prog.pure_eq_ret]
  iintro ⟨⟨#HR, Hs3, Hc, HO, Ha⟩, Hk⟩
  iapply (step_load m c 3 1 _) $$ Hs3; iintro Hs3
  iapply (step_recv m K c 2 (by decide) 7 rfl W (dst := slotM 2) rfl) $$ [Hc HO Ha]
  · isplitr; · iexact HR
    isplitl [Hc]; · iexact Hc
    isplitl [HO] <;> iassumption
  iintro ⟨HO, Ha, Hs2⟩
  iapply (step_load m c 2 0 _) $$ Hs2; iintro Hs2
  rw [wp_ret]; imodintro
  iapply Hk
  isplitl [Hs3]; · iexact Hs3
  isplitl [HO]; · iexact HO
  isplitl [Ha]; · iexact Ha
  iexact Hs2

/-- The eighth part: the values of slot 2 read, the result stored, and the first copy's completion awaited. -/
theorem part8_spec (c : Dev nD) (W : Waits sig Unit) (g3 : Vec F S512x128 .f32) {Q : _ → sProp 𝕄} :
    iprop((records m K ∗ slotPts c 2 fullShare (KV m c) ∗ buf c cc0_stg3_0 g3 ∗ cred (tallyAt (sendCell c 1) () N) ∗ owes (c : Thread nD τ) 0 W
          ∗ atPos ER (sendCell c 1) 0 ∅ 0)
        ∗ ((slotPts c 2 fullShare (KV m c) ∗ buf c cc0_stg3_0 (outAt m c) ∗ owes (c : Thread nD τ) 0 (insert (SemLoc.dma (sendS 1), ()) W)
          ∗ atPos ER (sendCell c 1) 1 ∅ 0 ∗ slotPts c 0 (lent 1) (KV m c)) -∗ Q ⟨⟩))
      ⊢ wp frame (wpE (defs₀ (F := F)) 𝒱₀ c none) Set.univ
          (k0_part8 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 (qs m c) (mx3 m c) (dn3 m c) (nm3 m c) (k0_pay25 (ks m c 2))) Q := by
  rw [k0_part8_eq_skeleton]; unfold k0_part8_skel outAt ks vs
  simp only [Prog.lift, Prog.bind_op, Prog.bind_ret, Prog.pure_eq_ret]
  iintro ⟨⟨#HR, Hs2, Hout, Hc, HO, Ha⟩, Hk⟩
  iapply (step_load m c 2 1 _) $$ Hs2; iintro Hs2
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  iapply (step_sent m K c 1 (by decide) 2 rfl W rfl) $$ [Hc HO Ha]
  · isplitr; · iexact HR
    isplitl [Hc]; · iexact Hc
    isplitl [HO] <;> iassumption
  iintro ⟨HO, Ha, Hs0⟩
  rw [wp_ret]; imodintro
  iapply Hk
  isplitl [Hs2]; · iexact Hs2
  isplitl [Hout]; · iexact Hout
  isplitl [HO]; · iexact HO
  isplitl [Ha]; · iexact Ha
  iexact Hs0

end Cert.KernelIdeal.Attn

end
-- ==== Proof.KernelIdealWhole.lean ====
/-
The kernel's body from end to end: the printed parts one after the other, the last two waits, and the semaphores closed.
-/
module

public import proofs.«01_k».proof.Proof.KernelIdealParts
public import proofs.«01_k».proof.Proof.Gen.KernelIdeal.Points

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 9 → ℕ)

omit [FloatOps F] [Named F] in
/-- Slot 0 held in full is the four shares of it. -/
theorem lend (c : Dev nD) (f : Vec F S4x2x512x128 .bf16) :
    (slotPts c 0 fullShare f : sProp 𝕄)
      = iprop((slotPts c 0 (lent 1) f ∗ slotPts c 0 (lent 2) f) ∗ (slotPts c 0 (lent 3) f ∗ slotPts c 0 (lent 0) f)) := by
  have h (q : PosShare TreeShare) : (slotPts c 0 q f : sProp 𝕄) = iprop(slotPts c 0 q.left f ∗ slotPts c 0 q.right f) := by
    have h' := pointsTo_share (nD := nD) (τ := τ) (sig := sig) (Ix := Unit) (Val := Elt F) (Name := ℕ) (U := UU) (Lvl := ℕ)
      (ℓ := (c : Thread nD τ).loc cc0_scratch0) (I := slotSet 0) (f := f) (PosShare.mem_left_op_right q)
    exact equiv_iff.mp ⟨h'.1, h'.2⟩
  rw [h fullShare, h fullShare.left, h fullShare.right]

omit [FloatOps F] [Named F] in
/-- A semaphore whose remaining rounds grant nothing is closed: its counter is zero. -/
theorem close (ck : Dev nD × Fin 9) (R : ℕ) (h : ∀ r, R ≤ r → (rd (F := F) m).duties (kcell ck) r = ∅) :
    iprop(records m K ∗ atPos ER (kcell ck) R ∅ 0) ⊢ |={Set.univ}=> (semVal (kcell ck) 0 : sProp 𝕄) := by
  iintro ⟨#HR, Ha⟩
  iapply (Rounds.cell_close ER (rd m) (Set.mem_univ (K ck)) (fun h => h) (R := R) h)
  isplitr; · iapply (inv_at m K ck); iexact HR
  iexact Ha

/-- A staging buffer as the pipeline hands it over. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves: the final state, no debts, the inputs unchanged and the result. -/
def bodyPost (c : Dev nD) : sProp 𝕄 :=
  iprop(Φ₁ c ∗ (dats m 0 c).owesAt () t₀.succ ∗ stg c cc0_stg0_0 (qblk m c) ∗ stg c cc0_stg1_0 (kblk m c) ∗ stg c cc0_stg2_0 (vblk m c)
    ∗ stg c cc0_stg3_0 (outAt m c))

set_option maxHeartbeats 1600000 in
/-- The whole body. -/
theorem sound_body (c : Dev nD) (Kt : PUnit → sProp 𝕄) (W : Waits sig Unit) (f0 : Vec F S4x2x512x128 .bf16) (g3 : Vec F S512x128 .f32) :
    iprop((records m K ∗ linear c ∗ creds c ∗ levAts L lv ∗ ((c : Thread nD τ).loc cc0_scratch0 ↦{fullShare} f0) ∗ owes (c : Thread nD τ) (O₀ c) W
          ∗ buf c cc0_stg0_0 (qblk m c) ∗ buf c cc0_stg1_0 (kblk m c) ∗ buf c cc0_stg2_0 (vblk m c) ∗ buf c cc0_stg3_0 g3)
        ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  rw [cc0_body_eq_skeleton]; unfold cc0_body_skel
  rw [slots_eq]
  unfold linear creds
  rw [bigSep_fin9, bigSep_fin4]
  unfold payTok
  iintro ⟨⟨#HR, ⟨⟨HaB, Ha0, Ha1, Ha2, Ha3, Hb0, Hb1, Hb2, Hb3⟩, -, ⟨HtB1, HtV1, HtS1⟩, ⟨HtB2, HtV2, HtS2⟩, ⟨HtB3, HtV3, HtS3⟩⟩, ⟨HcB, HcV1, HcV2, HcV3⟩, #Hlev,
    ⟨Hs0, Hs1, Hs2, Hs3⟩, HO, Hq, Hkk, Hv, Hout⟩, Hk⟩
  rw [wp_bind]
  iapply (part1_spec c)
  iintro %v2 %v13 %v24 %v35
  dsimp only
  rw [wp_bind]
  iapply (part2_spec m K c v2 v13 v24 v35 W f0)
  isplitl [HO HcB HaB HtB1 HtB2 HtB3 Hs0 Hs1 Hs2 Hs3 Hkk Hv]
  · isplitr; · iexact HR
    isplitr; · iexact Hlev
    isplitl [HO]; · iexact HO
    isplitl [HcB]; · iexact HcB
    isplitl [HaB]; · iexact HaB
    isplitl [HtB1]; · iexact HtB1
    isplitl [HtB2]; · iexact HtB2
    isplitl [HtB3]; · iexact HtB3
    isplitl [Hs0]; · iexact Hs0
    isplitl [Hs1]; · iexact Hs1
    isplitl [Hs2]; · iexact Hs2
    isplitl [Hs3]; · iexact Hs3
    isplitl [Hkk] <;> iassumption
  iintro %r ⟨HO, HaB, Hp1, Hp2, Hp3, Hs0, Hkk, Hv⟩
  obtain ⟨v55, v56, v57, v58, v59⟩ := r
  dsimp only
  ihave Hs0 := (Entails.of_eq (lend c (KV m c))) $$ Hs0
  icases Hs0 with ⟨⟨Hl1, Hl2⟩, Hl3, Hl0⟩
  rw [wp_bind]
  iapply (part3_spec m K c v2 v55 v56 v57 v58 v59 _)
  isplitl [Hl1 Hp3 HO HtS1 HtV3]
  · isplitr; · iexact HR
    isplitl [Hl1]; · iexact Hl1
    isplitl [Hp3]; · iexact Hp3
    isplitl [HO]; · iexact HO
    isplitl [HtS1] <;> iassumption
  iintro ⟨Hc1, HO⟩
  rw [wp_bind]
  iapply (part4_spec m K c v2 _)
  isplitl [Hl3 Hl2 Hp1 Hp2 HO HtS3 HtV1 HtS2 HtV2 Hq]
  · isplitr; · iexact HR
    isplitl [Hl3]; · iexact Hl3
    isplitl [Hl2]; · iexact Hl2
    isplitl [Hp1]; · iexact Hp1
    isplitl [Hp2]; · iexact Hp2
    isplitl [HO]; · iexact HO
    isplitl [HtS3]; · iexact HtS3
    isplitl [HtV1]; · iexact HtV1
    isplitl [HtS2]; · iexact HtS2
    isplitl [HtV2] <;> iassumption
  iintro ⟨Hc3, Hc2, HO, Hq⟩
  dsimp only
  rw [wp_bind]
  iapply (part5_spec m K c v2 _)
  isplitl [Hl0 HcV1 HO Hb1]
  · isplitr; · iexact HR
    isplitl [Hl0]; · iexact Hl0
    isplitl [HcV1]; · iexact HcV1
    isplitl [HO] <;> iassumption
  iintro ⟨Hl0, HO, Hb1, Hs1⟩
  dsimp only
  rw [wp_bind]
  iapply (part6_spec m K c v2 _)
  isplitl [Hs1 HcV3 HO Hb3]
  · isplitr; · iexact HR
    isplitl [Hs1]; · iexact Hs1
    isplitl [HcV3]; · iexact HcV3
    isplitl [HO] <;> iassumption
  iintro ⟨Hs1, HO, Hb3, Hs3⟩
  dsimp only
  rw [wp_bind]
  iapply (part7_spec m K c v2 _)
  isplitl [Hs3 HcV2 HO Hb2]
  · isplitr; · iexact HR
    isplitl [Hs3]; · iexact Hs3
    isplitl [HcV2]; · iexact HcV2
    isplitl [HO] <;> iassumption
  iintro ⟨Hs3, HO, Hb2, Hs2⟩
  dsimp only
  rw [wp_bind]
  iapply (part8_spec m K c _ g3)
  isplitl [Hs2 Hout Hc1 HO Ha1]
  · isplitr; · iexact HR
    isplitl [Hs2]; · iexact Hs2
    isplitl [Hout]; · iexact Hout
    isplitl [Hc1]; · iexact Hc1
    isplitl [HO] <;> iassumption
  iintro ⟨Hs2, Hout, HO, Ha1, Hl1⟩
  simp only [Prog.lift, Prog.bind_op, Prog.bind_ret, Prog.pure_eq_ret]
  iapply (step_sent m K c 3 (by decide) 4 rfl _ (dst := slotM 0) rfl) $$ [Hc3 HO Ha3]
  · isplitr; · iexact HR
    isplitl [Hc3]; · iexact Hc3
    isplitl [HO] <;> iassumption
  iintro ⟨HO, Ha3, Hl3⟩
  iapply (step_sent m K c 2 (by decide) 3 rfl _ (dst := slotM 0) rfl) $$ [Hc2 HO Ha2]
  · isplitr; · iexact HR
    isplitl [Hc2]; · iexact Hc2
    isplitl [HO] <;> iassumption
  iintro ⟨HO, Ha2, Hl2⟩
  imod (close m K (c, 0) 1 (duties_later m _)) $$ [HaB] with HzB
  · isplitr <;> iassumption
  imod (close m K (c, 1) 0 (duties_send0 m c)) $$ [Ha0] with Hz0
  · isplitr <;> iassumption
  imod (close m K (c, 2) 1 (duties_later m _)) $$ [Ha1] with Hz1
  · isplitr <;> iassumption
  imod (close m K (c, 3) 1 (duties_later m _)) $$ [Ha2] with Hz2
  · isplitr <;> iassumption
  imod (close m K (c, 4) 1 (duties_later m _)) $$ [Ha3] with Hz3
  · isplitr <;> iassumption
  imod (close m K (c, 5) 0 (duties_recv0 m c)) $$ [Hb0] with Hy0
  · isplitr <;> iassumption
  imod (close m K (c, 6) 1 (duties_later m _)) $$ [Hb1] with Hy1
  · isplitr <;> iassumption
  imod (close m K (c, 7) 1 (duties_later m _)) $$ [Hb2] with Hy2
  · isplitr <;> iassumption
  imod (close m K (c, 8) 1 (duties_later m _)) $$ [Hb3] with Hy3
  · isplitr <;> iassumption
  rw [wp_ret]; imodintro
  iapply Hk
  unfold bodyPost Φ₁ bufPts Dat.owesAt Pipeline.owesWithin
  rw [show (dats m 0 c).owed t₀.succ = 0 from rfl, bigSep_fin9]
  isplitl [Hl0 Hl1 Hl2 Hl3 Hs1 Hs2 Hs3 HzB Hz0 Hz1 Hz2 Hz3 Hy0 Hy1 Hy2 Hy3]
  · isplitl [Hl0 Hl1 Hl2 Hl3 Hs1 Hs2 Hs3]
    · iexists (KV m c)
      iapply (Entails.of_eq (slots_eq c (KV m c)).symm)
      isplitl [Hl0 Hl1 Hl2 Hl3]
      · iapply (Entails.of_eq (lend c (KV m c)).symm)
        isplitl [Hl1 Hl2]
        · isplitl [Hl1] <;> iassumption
        · isplitl [Hl3] <;> iassumption
      isplitl [Hs1]; · iexact Hs1
      isplitl [Hs2] <;> iassumption
    isplitl [HzB]; · iexact HzB
    isplitl [Hz0]; · iexact Hz0
    isplitl [Hz1]; · iexact Hz1
    isplitl [Hz2]; · iexact Hz2
    isplitl [Hz3]; · iexact Hz3
    isplitl [Hy0]; · iexact Hy0
    isplitl [Hy1]; · iexact Hy1
    isplitl [Hy2] <;> iassumption
  isplitl [HO]
  · iexists _
    isplitr; swap; · iexact HO
    ipureintro; exact fun _ _ => Or.inl trivial
  isplitl [Hq]
  · iexists _; isplitr; · (ipureintro; rfl)
    iexact Hq
  isplitl [Hkk]
  · iexists _; isplitr; · (ipureintro; rfl)
    iexact Hkk
  isplitl [Hv]
  · iexists _; isplitr; · (ipureintro; rfl)
    iexact Hv
  iexists _; isplitr; · (ipureintro; rfl)
  iexact Hout

/-- The body obligation the launch theorem asks of each device. -/
theorem body_obligation (c : Dev nD) : BodyObligation (dats (F := F) m 0 c) (defs₀ (F := F)) 𝒱₀ () Set.univ := fun t => by
  rw [fin_N0 t, bigSep_W0, bigSep_W0]
  simp only [owns_whole_eq]
  iintro ⟨HΦ, Ho, ⟨%d0, %g0, %hg0, Hq⟩, ⟨%d1, %g1, %hg1, Hkk⟩, ⟨%d2, %g2, %hg2, Hv⟩, ⟨%d3, %g3, %hg3, Hout⟩⟩
  have h0 : g0 = qblk m c := by rw [hg0]; unfold Dat.before; rw [if_pos (fetch0_0 _)]; rfl
  have h1 : g1 = kblk m c := by rw [hg1]; unfold Dat.before; rw [if_pos (fetch0_1 _)]; rfl
  have h2 : g2 = vblk m c := by rw [hg2]; unfold Dat.before; rw [if_pos (fetch0_2 _)]; rfl
  subst h0 h1 h2
  ihave HΦ := (show (dats m 0 c).Φ t0_0.castSucc ⊢ iprop(((∃ K, records m K ∗ linear c) ∗ creds c ∗ levAts L lv)
      ∗ ∃ f : Buf (Elt F) ((c : Thread nD τ).loc cc0_scratch0), ((c : Thread nD τ).loc cc0_scratch0) ↦{fullShare} f) from BI.Entails.refl _) $$ HΦ
  icases HΦ with ⟨⟨⟨%K, #HR, Hlin⟩, Hcr, #Hlev⟩, ⟨%f0, Hb⟩⟩
  unfold Dat.owesAt Pipeline.owesWithin
  icases Ho with ⟨%W, %hW, HO⟩
  iapply (sound_body m K c (fun _ => bodyPost m c) W f0 g3)
  isplitl
  · isplitr; · iexact HR
    isplitl [Hlin]; · iexact Hlin
    isplitl [Hcr]; · iexact Hcr
    isplitr; · iexact Hlev
    isplitl [Hb]; · iexact Hb
    isplitl [HO]; · iexact HO
    isplitl [Hq]; · iexact Hq
    isplitl [Hkk]; · iexact Hkk
    isplitl [Hv] <;> iassumption
  · iintro H; iexact H

end Cert.KernelIdeal.Attn

end
-- ==== Proof.KernelIdealRun.lean ====
/-
The launch: the semaphores' protocol set up on all four devices, and what every run of the program ends in.
-/
module

public import proofs.«01_k».proof.Proof.KernelIdealWhole
public import Idealize.ShloMosaic.Lib.Pipeline.CollectiveSegs

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The state the program is launched from: memory `m`, every semaphore at zero. -/
abbrev s₀ : MemSt nD τ sig (Elt F) := ⟨m, fun _ => 0, ρ⟩

/-- The kernel's own semaphores are distinct and none of them is the pipeline's. -/
theorem ownSemFacts : Pipeline.OwnSemFacts cfg0.spec osem := by decide

/-- The pipeline holds every array whole. -/
theorem share_eq (c : Dev nD) (w : Fin cfg0.W) : (dats m 0 c).share w = fullShare := by unfold Dat.share; split <;> rfl

/-! ## The protocol's cells and tokens -/

/-- The nine semaphores are distinct, -/
theorem csem_injective : Function.Injective csem := by decide

/-- also across devices. -/
theorem kcell_injective : Function.Injective (kcell : Dev nD × Fin 9 → GSem nD τ sig) := fun a b h =>
  Prod.ext (congrArg (fun g : GSem nD τ sig => g.1.1) h) (csem_injective (congrArg Prod.snd h))

/-- The semaphores of all devices. -/
def ringCells : Finset (GSem nD τ sig) := Finset.univ.map ⟨kcell, kcell_injective⟩

/-- The duties of one device's semaphores, by offset: its barrier's, its receive semaphore's, its send semaphore's. -/
abbrev duty : Fin 4 × Fin 3 → SemLoc sig × Fin 4 := fun p => match p.2 with
  | 0 => (.reg barS, p.1) | 1 => (.dma (recvS p.1), 0) | 2 => (.dma (sendS p.1), 0)

/-- Different offsets and kinds are different duties. -/
theorem duty_injective : Function.Injective duty := by decide

/-- The token of a duty of device `x.1`. -/
abbrev tokOf (x : Dev nD × Fin 4 × Fin 3) : GSem nD τ sig × ℕ × Fin 4 := (((x.1 : Thread nD τ), (duty x.2).1), 0, (duty x.2).2)

/-- Different duties have different tokens. -/
theorem tokOf_injective : Function.Injective (tokOf : Dev nD × Fin 4 × Fin 3 → GSem nD τ sig × ℕ × Fin 4) := fun a b h =>
  Prod.ext (congrArg (fun x : GSem nD τ sig × ℕ × Fin 4 => x.1.1.1) h)
    (duty_injective (Prod.ext (congrArg (fun x : GSem nD τ sig × ℕ × Fin 4 => x.1.2) h) (congrArg (fun x : GSem nD τ sig × ℕ × Fin 4 => x.2.2) h)))

/-- The tokens of all duties. -/
def ringToks : Finset (GSem nD τ sig × ℕ × Fin 4) := Finset.univ.map ⟨tokOf, tokOf_injective⟩

/-- The ghost state at launch. -/
def u₀ : UU :=
  (initOf (Pipeline.cells cfgs cellOf_inj) (Pipeline.launchToks cfgs cellOf_inj), initOf ringCells ringToks)

/-- The tokens of the duties on device `c`'s own semaphores, for offset `t`; -/
def tok (c : Dev nD) (t : Fin 4) : sProp 𝕄 :=
  iprop(dutyTok ER (barCell c) 0 t ∗ dutyTok ER (recvCell c t) 0 0 ∗ dutyTok ER (sendCell c t) 0 0)
/-- and for all. -/
def toks (c : Dev nD) : sProp 𝕄 := bigSep Finset.univ fun t : Fin 4 => tok c t

/-- What the launch deals device `c`; -/
def G (c : Dev nD) : sProp 𝕄 :=
  iprop((bigSep Finset.univ fun k : Fin 9 => roundState ER (rd m) (kcell (c, k)) 0)
    ∗ (bigSep Finset.univ fun k : Fin 9 => iprop(atPos ER (kcell (c, k)) 0 ∅ 0 ∗ reached ER (kcell (c, k)) 0)) ∗ toks c)
/-- what the set-up makes of it. -/
def G' (c : Dev nD) : sProp 𝕄 := iprop(∃ K, records m K ∗ linear c)

omit [FloatOps F] [Named F] in
/-- A product over three numbers, written out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] [Named F] in
/-- The exchange's ghost state at launch gives every device its share of it. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_prod]
    unfold toks
    refine bigSep_congr fun t _ => ?_
    rw [bigSep_fin3]; rfl
  iintro HX
  imod (Rounds.fund ER (rd m) ringCells ringToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at launch -/

omit [FloatOps F] [Named F] in
/-- The kernel's own semaphores at zero, written out. -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0 ∗ semVal (kcell (c, 7)) 0 ∗ semVal (kcell (c, 8)) 0) := by
  rw [Pipeline.ownSems0_eq_of_list c osem [0, 1, 2, 3, 4, 5, 6, 7] (by decide) (by decide)]; rfl
omit [FloatOps F] [Named F] in
/-- The only other semaphore is the barrier. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] [Named F] in
/-- A device's nine semaphores at zero: the barrier's and the kernel's own eight. -/
theorem sems0_eq (c : Dev nD) :
    (bigSep Finset.univ fun k : Fin 9 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_fin9]

omit [FloatOps F] [Named F] in
/-- From its semaphores at zero and its share a device makes the invariants of its nine semaphores. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 9 => semVal (kcell (c, k)) 0) ∗ bigSep Finset.univ fun k : Fin 9 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Going `g t` places round for offset `t`, as a permutation of (device, offset). -/
def turn (g : Fin 4 → Fin 4) (hg : ∀ c t, rot (rot c (g t)) (-g t) = c ∧ rot (rot c (-g t)) (g t) = c) : Dev nD × Fin 4 ≃ Dev nD × Fin 4 where
  toFun x := (rot x.1 (g x.2), x.2)
  invFun x := (rot x.1 (-g x.2), x.2)
  left_inv x := Prod.ext (hg x.1 x.2).1 rfl
  right_inv x := Prod.ext (hg x.1 x.2).2 rfl

omit [FloatOps F] [Named F] in
/-- Everything dealt to every device and offset may be dealt `g t` places round. -/
theorem deal (g : Fin 4 → Fin 4) (A : Dev nD → Fin 4 → sProp 𝕄) :
    (bigSep Finset.univ fun c : Dev nD => bigSep Finset.univ fun t : Fin 4 => A c t)
      = bigSep Finset.univ fun c : Dev nD => bigSep Finset.univ fun t : Fin 4 => A (rot c (g t)) t := by
  rw [← bigSep_univ_prod (fun x : Dev nD × Fin 4 => A x.1 x.2),
    bigSep_univ_equiv (turn g fun c t => ⟨rot_rot_neg c (g t), rot_neg_rot c (g t)⟩), bigSep_univ_prod]
  rfl

omit [FloatOps F] [Named F] in
/-- Each token goes to the device that pays its duty. -/
theorem toks_around : (bigSep Finset.univ fun c : Dev nD => (toks c : sProp 𝕄))
    = bigSep Finset.univ fun c : Dev nD => bigSep Finset.univ fun t : Fin 4 => payTok c t := by
  unfold toks tok payTok
  simp only [bigSep_sep']
  rw [deal (fun t => t) (fun c t => dutyTok ER (barCell c) 0 t), deal (fun t => -t) (fun c t => dutyTok ER (recvCell c t) 0 0)]

omit [FloatOps F] [Named F] in
/-- A fact known to all may be used for every factor of a product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] [Named F] in
/-- The invariants, shared by all, and the tokens, dealt to the devices that use them. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄)), toks_around]
  iintro ⟨HI, ⟨Hat, #HR⟩, Htok⟩
  ihave HK := (BI.bigSep_exists_pi Finset.univ (fun (ck : Dev nD × Fin 9) (κ : ℕ) => (cellInv ER (rd m) κ (kcell ck) : sProp 𝕄))) $$ HI
  icases HK with ⟨%K, #HI⟩
  iapply (with_persistent (R := records m K) (Φ := linear) fun c _ => show iprop(records m K ∗ linear c) ⊢ G' m c from by
    unfold G'; iintro H; iexists K; iexact H)
  isplitr
  · unfold records; isplitl; · iexact HI
    iexact HR
  · unfold linear; rw [bigSep_sep']
    isplitl [Hat] <;> iassumption

omit [FloatOps F] [Named F] in
/-- The set-up of all devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- Receive semaphores are the same when device and slot are. -/
theorem recv_eq_iff {a b : Dev nD} {s t : Fin 4} : recvCell a s = recvCell b t ↔ a = b ∧ s = t := by
  have key : ∀ s t : Fin 4, (SemLoc.dma (recvS s) : SemLoc sig) = .dma (recvS t) → s = t := by decide
  exact ⟨fun h => ⟨congrArg (fun g : GSem nD τ sig => g.1.1) h, key s t (congrArg Prod.snd h)⟩, fun h => by rw [h.1, h.2]⟩
/-- Barriers are the same when the devices are. -/
theorem bar_eq_iff {a b : Dev nD} : barCell a = barCell b ↔ a = b :=
  ⟨fun h => congrArg (fun g : GSem nD τ sig => g.1.1) h, fun h => by rw [h]⟩
/-- A receive semaphore is no barrier. -/
theorem recv_ne_bar {a b : Dev nD} {s : Fin 4} : ¬ recvCell a s = barCell b := fun h => by
  have := congrArg Prod.snd h; cases this

/-- What device `d` owes semaphore `g` at launch. -/
theorem O₀_at (d : Dev nD) (g : GSem nD τ sig) : O₀ d g ()
    = (((((if g = recvCell (rot d (-2)) 2 then N else 0) + if g = recvCell (rot d (-1)) 1 then N else 0) + if g = recvCell (rot d (-3)) 3 then N else 0)
        + if g = barCell (rot d 3) then 1 else 0) + if g = barCell (rot d 2) then 1 else 0) + if g = barCell (rot d 1) then 1 else 0 := by
  unfold O₀ B2 B3 R3 R1 R2
  simp only [Pi.add_apply, Finsupp.add_apply, tallyAt_apply, and_true]

/-- A barrier is owed three units in all, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  simp only [O₀_at, bar_eq_iff, eq_comm (a := barCell c) (b := recvCell _ _), recv_ne_bar, if_false, Nat.zero_add]
  revert c; decide

/-- and a receive semaphore in use the credit of one copy. -/
theorem launch_recv (c : Dev nD) (s : Fin 4) (hs : s ≠ 0) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same]
  simp only [O₀_at, recv_eq_iff, recv_ne_bar, if_false, Nat.add_zero]
  generalize N = n
  rw [show (∑ d : Dev nD, ((((if c = rot d (-2) ∧ s = 2 then n else 0) + if c = rot d (-1) ∧ s = 1 then n else 0) + if c = rot d (-3) ∧ s = 3 then n else 0)))
    = (∑ d : Dev nD, ((((if c = rot d (-2) ∧ s = 2 then 1 else 0) + if c = rot d (-1) ∧ s = 1 then 1 else 0) + if c = rot d (-3) ∧ s = 3 then 1 else 0))) * n from by
      rw [Finset.sum_mul]
      exact Finset.sum_congr rfl fun d _ => by simp only [add_mul, ite_mul, Nat.one_mul, Nat.zero_mul]]
  rw [show (∑ d : Dev nD, ((((if c = rot d (-2) ∧ s = 2 then 1 else 0) + if c = rot d (-1) ∧ s = 1 then 1 else 0) + if c = rot d (-3) ∧ s = 3 then 1 else 0))) = 1 from by
    revert c s; decide, Nat.one_mul]

omit [FloatOps F] [Named F] in
/-- The launch's credit is what the device's waits spend. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  rw [← launch_recv c 1 (by decide), ← launch_recv c 2 (by decide), ← launch_recv c 3 (by decide)]
  rw [bigSep_erase (i := SemLoc.dma (recvS 1)) (by decide)]
  refine sep_mono_right ?_
  rw [bigSep_erase (i := SemLoc.dma (recvS 2)) (by decide)]
  refine sep_mono_right ?_
  exact bigSep_elim (by decide)

/-! ## What the launch theorem asks -/

omit [FloatOps F] [Named F] in
/-- The launch gives each device what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

/-- That and the exchange buffer are the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufPts
  iintro ⟨Hs, -, Hr⟩
  isplitl [Hs] <;> iassumption

/-- The state after the body gives the semaphores at zero and the exchange buffer back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ bufPts
  rw [sems0_eq]
  iintro ⟨Hr, HzB, Hz⟩
  isplitl [HzB]; · iexact HzB
  isplitl [Hz] <;> iassumption

/-- The pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What array `w` of device `c` holds at the end. -/
def finalA (c : Dev nD) (w : Fin cfg0.W) : Buf (Elt F) ((cfg0.win w).arr.view.loc (c : Thread nD τ)) := (dats m 0 c).arrAt w cfg0.N

/-- Every array of every device holds what `finalA` says. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory and with every semaphore at zero, every fair run of the program on four devices ends, and ends with
    each array holding what `finalA` says and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The three argument arrays hold at the end what they held. -/
theorem finalA_q (c : Dev nD) : finalA m c (0 : Fin 4) = m (win0_0.arr.view.loc (c : Thread nD τ)) := (dats (F := F) m 0 c).arrAt_in (0 : Fin 4) rfl _
/-- So does the array of keys, -/
theorem finalA_k (c : Dev nD) : finalA m c (1 : Fin 4) = m (win0_1.arr.view.loc (c : Thread nD τ)) := (dats (F := F) m 0 c).arrAt_in (1 : Fin 4) rfl _
/-- and the array of values. -/
theorem finalA_v (c : Dev nD) : finalA m c (2 : Fin 4) = m (win0_2.arr.view.loc (c : Thread nD τ)) := (dats (F := F) m 0 c).arrAt_in (2 : Fin 4) rfl _

end Cert.KernelIdeal.Attn

end
-- ==== Proof.Finals.lean ====
/-
What the arrays hold at the end: the arguments what they held, the result each device's `outAt`.
-/
module

public import proofs.«01_k».proof.Proof.KernelIdealRun
public import proofs.«01_k».proof.Proof.Gen.KernelIdeal.Points

@[expose] public section

noncomputable section

namespace Cert.KernelIdeal.Attn

open Cert.KernelIdeal Cert.KernelIdeal.Gen
open Idealize.ShloMosaic Idealize.ShloMosaic.TcCoe Idealize.ShloMosaic.Pipeline Idealize.SL.Sem

variable {F : FTy → Type} [FloatOps F] [Named F]
variable (m : (ℓ : Loc nD τ sig) → Buf (Elt F) ℓ) (ρ : Dev nD → PrngReg) (c : Dev nD)

/-! ## The windows are whole arrays -/

/-- A window's one block is its whole array: reading it gives the array. -/
theorem qblk_eq : qblk m c = m ((c : Thread nD τ).loc main_arg0) :=
  Memref.read_access_unit_zero (Elt F) main_arg0 (funext fun a => by fin_cases a <;> rfl) _ _
/-- The block of keys is the whole argument of the device, -/
theorem kblk_eq : kblk m c = m ((c : Thread nD τ).loc main_arg1) :=
  Memref.read_access_unit_zero (Elt F) main_arg1 (funext fun a => by fin_cases a <;> rfl) _ _
/-- and so is the block of values. -/
theorem vblk_eq : vblk m c = m ((c : Thread nD τ).loc main_arg2) :=
  Memref.read_access_unit_zero (Elt F) main_arg2 (funext fun a => by fin_cases a <;> rfl) _ _
/-- Reading the result's only block reads the whole array. -/
theorem oblk_eq (f : Buf (Elt F) ((c : Thread nD τ).loc main_v1)) : (win0_3.blk (0 : Fin 1)).view.read (Elt F) f = f :=
  Memref.read_access_unit_zero (Elt F) main_v1 (funext fun a => by fin_cases a <;> rfl) _ _

/-- The result array ends at the device's result. -/
theorem finalA_o : finalA m c (3 : Fin 4) = outAt m c := by
  have hw : ((cfg0.win 3).blk t0_0).view.read (Elt F) (finalA m c (3 : Fin 4)) = (dats m 0 c).flushed (3 : Fin 4) t0_0 := by
    unfold finalA
    rw [show cfg0.N = t0_0.val + 1 from rfl, (dats m 0 c).arrAt_succ (3 : Fin 4) t0_0, if_pos (flush0_3 t0_0)]
    exact View.read_write_univ _ _
  exact (oblk_eq c _).symm.trans (hw.trans rfl)

/-- Every run ends with the device's result in the result array, the arguments unchanged and every semaphore at zero. -/
theorem run_value : θ_run (defs (F := F)) (onTc (τ := τ) (main (F := F))) ⟨m, fun _ => 0, ρ⟩ fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0 :=
  (θ_run _ _ _).mono (fun _ h => ⟨fun c => ⟨(h.1 c (3 : Fin 4)).trans (finalA_o m c), (h.1 c (0 : Fin 4)).trans (finalA_q m c),
    (h.1 c (1 : Fin 4)).trans (finalA_k m c), (h.1 c (2 : Fin 4)).trans (finalA_v m c)⟩, h.2⟩) (run_main m ρ)

end Cert.KernelIdeal.Attn

end
-- ==== Proof.Math.lean ====
/-
The arithmetic behind an attention row taken block by block, on the extended reals: real scores, arbitrary values.
-/
module

public import Idealize.ShloMosaic.Lib.ValueIdx
public import Idealize.ShloMosaic.PureOps.Ideal.Laws

@[expose] public section

noncomputable section

namespace Cert.Attn

open Idealize.ShloMosaic
open scoped BigOperators

variable {ι κ : Type}

/-! ## Sums -/

/-- A sum of reals is the real sum. -/
theorem coe_sum (P : Finset ι) (f : ι → ℝ) : (∑ i ∈ P, (f i : EReal)) = ((∑ i ∈ P, f i : ℝ) : EReal) := by
  classical
  induction P using Finset.induction_on with
  | empty => simp
  | insert a P ha ih => rw [Finset.sum_insert ha, Finset.sum_insert ha, ih, EReal.coe_add]

/-- A nonnegative real factor on the right distributes over any sum of extended reals. -/
theorem sum_mul_real (P : Finset ι) (f : ι → EReal) {r : ℝ} (hr : 0 ≤ r) :
    (∑ i ∈ P, f i) * (r : EReal) = ∑ i ∈ P, f i * (r : EReal) := by
  classical
  induction P using Finset.induction_on with
  | empty => simp
  | insert a P ha ih =>
    rw [Finset.sum_insert ha, Finset.sum_insert ha, ← ih]
    exact EReal.right_distrib_of_nonneg_of_ne_top (by exact_mod_cast hr) (EReal.coe_ne_top r) _ _

/-! ## Maxima -/

/-- The maximum of a nonempty family of reals, folded from minus infinity, is real. -/
theorem fold_max_real [Fintype ι] [Nonempty ι] (s : ι → ℝ) :
    ∃ r : ℝ, (Finset.univ : Finset ι).fold max (⊥ : EReal) (fun i => (s i : EReal)) = r := by
  have htop : (Finset.univ : Finset ι).fold max (⊥ : EReal) (fun i => (s i : EReal)) ≠ ⊤ :=
    ne_of_lt ((Finset.fold_max_lt _).2 ⟨bot_lt_top, fun i _ => EReal.coe_lt_top _⟩)
  have hbot : (Finset.univ : Finset ι).fold max (⊥ : EReal) (fun i => (s i : EReal)) ≠ ⊥ :=
    ne_of_gt ((Finset.lt_fold_max _).2 (.inr ⟨Classical.arbitrary ι, Finset.mem_univ _, EReal.bot_lt_coe _⟩))
  exact ⟨_, (EReal.coe_toReal htop hbot).symm⟩

/-! ## Weighted sums -/

/-- The weights' sum over `P`, every score taken relative to `m`; -/
def den (s : ι → ℝ) (P : Finset ι) (m : ℝ) : ℝ := ∑ i ∈ P, Real.exp (s i - m)

/-- the weighted sum of the values over `P`. -/
def num (s : ι → ℝ) (v : ι → EReal) (P : Finset ι) (m : ℝ) : EReal := ∑ i ∈ P, ((Real.exp (s i - m) : ℝ) : EReal) * v i

/-- Taking the scores relative to another number scales the weights' sum … -/
theorem den_rescale (s : ι → ℝ) (P : Finset ι) (m m' : ℝ) : den s P m * Real.exp (m - m') = den s P m' := by
  unfold den
  rw [Finset.sum_mul]
  refine Finset.sum_congr rfl fun i _ => ?_
  rw [← Real.exp_add]; congr 1; ring

/-- … and the weighted sum of the values alike. -/
theorem num_rescale (s : ι → ℝ) (v : ι → EReal) (P : Finset ι) (m m' : ℝ) :
    num s v P m * ((Real.exp (m - m') : ℝ) : EReal) = num s v P m' := by
  unfold num
  rw [sum_mul_real _ _ (Real.exp_pos _).le]
  refine Finset.sum_congr rfl fun i _ => ?_
  rw [mul_right_comm, ← EReal.coe_mul, ← Real.exp_add]; congr 3; ring

/-- The denominator of a nonempty set of columns is positive. -/
theorem den_pos (s : ι → ℝ) {P : Finset ι} (hP : P.Nonempty) (m : ℝ) : 0 < den s P m :=
  Finset.sum_pos (fun _ _ => Real.exp_pos _) hP

/-- The quotient the blockwise evaluation ends in does not depend on the number the scores were taken relative to: it is
    the sum of the values by normalised weights. -/
theorem num_div_den (s : ι → ℝ) (v : ι → EReal) {P : Finset ι} (hP : P.Nonempty) (m m' : ℝ) :
    Ideal.div (num s v P m) (den s P m : EReal)
      = ∑ i ∈ P, Ideal.div ((Real.exp (s i - m') : ℝ) : EReal) (den s P m' : EReal) * v i := by
  have h := den_pos s hP m
  have h' := den_pos s hP m'
  rw [Ideal.div_coe h.ne']
  unfold num
  rw [sum_mul_real _ _ (one_div_pos.2 h).le]
  refine Finset.sum_congr rfl fun i _ => ?_
  rw [Ideal.div_coe h'.ne', mul_right_comm, ← EReal.coe_mul, ← EReal.coe_mul]
  congr 2
  have hd := den_rescale s P m m'
  have he : Real.exp (s i - m') = Real.exp (s i - m) * Real.exp (m - m') := by rw [← Real.exp_add]; congr 1; ring
  rw [← hd, he]
  have := (Real.exp_pos (m - m')).ne'
  field_simp

/-! ## A row taken block by block -/

variable {n : ℕ}

/-- The new running maximum, -/
def stepMax (M : EReal) (s : Fin n → EReal) : EReal := max M ((Finset.univ : Finset (Fin n)).fold max ⊥ s)
/-- the new running denominator, -/
def stepDen (M l : EReal) (s : Fin n → EReal) : EReal :=
  l * Ideal.exp (M - stepMax M s) + ∑ j, Ideal.exp (s j - stepMax M s)
/-- and the new running numerator. -/
def stepNum (M a : EReal) (s v : Fin n → EReal) : EReal :=
  a * Ideal.exp (M - stepMax M s) + ∑ j, Ideal.exp (s j - stepMax M s) * v j

/-- Running maximum, denominator and numerator stand for the blocks of `P`. -/
def Stands (s : κ × Fin n → ℝ) (v : κ × Fin n → EReal) (P : Finset κ) (M l a : EReal) : Prop :=
  ∃ m : ℝ, M = m ∧ l = (den s (P ×ˢ Finset.univ) m : EReal) ∧ a = num s v (P ×ˢ Finset.univ) m

variable {s : κ × Fin n → ℝ} {v : κ × Fin n → EReal}

/-- The exponential of a difference of reals is a real. -/
theorem sub_coe_exp (x y : ℝ) : Ideal.exp ((x : EReal) - (y : EReal)) = ((Real.exp (x - y) : ℝ) : EReal) := by
  rw [← EReal.coe_sub, Ideal.exp_coe]

/-- The first block: from minus infinity, zero and zero. -/
theorem stands_first [NeZero n] (b : κ) :
    Stands s v {b} (stepMax ⊥ fun j => (s (b, j) : EReal)) (stepDen ⊥ 0 fun j => (s (b, j) : EReal))
      (stepNum ⊥ 0 (fun j => (s (b, j) : EReal)) fun j => v (b, j)) := by
  obtain ⟨r, hr⟩ := fold_max_real fun j => s (b, j)
  have hM : (stepMax ⊥ fun j => (s (b, j) : EReal)) = (r : EReal) := by
    unfold stepMax; rw [hr]; exact max_eq_right bot_le
  refine ⟨r, hM, ?_, ?_⟩
  · unfold stepDen den
    rw [hM, zero_mul, zero_add, Finset.sum_product, Finset.sum_singleton, ← coe_sum]
    exact Finset.sum_congr rfl fun j _ => sub_coe_exp _ _
  · unfold stepNum num
    rw [hM, zero_mul, zero_add, Finset.sum_product, Finset.sum_singleton]
    exact Finset.sum_congr rfl fun j _ => by rw [sub_coe_exp]

/-- One block more. -/
theorem stands_step [DecidableEq κ] [NeZero n] {P : Finset κ} {b : κ} (hb : b ∉ P) {M l a : EReal} (h : Stands s v P M l a) :
    Stands s v (insert b P) (stepMax M fun j => (s (b, j) : EReal)) (stepDen M l fun j => (s (b, j) : EReal))
      (stepNum M a (fun j => (s (b, j) : EReal)) fun j => v (b, j)) := by
  obtain ⟨m, rfl, rfl, rfl⟩ := h
  obtain ⟨r, hr⟩ := fold_max_real fun j => s (b, j)
  have hM : (stepMax (m : EReal) fun j => (s (b, j) : EReal)) = ((max m r : ℝ) : EReal) := by
    unfold stepMax; rw [hr]; exact (EReal.coe_strictMono.monotone.map_max).symm
  generalize hR : max m r = R at hM
  refine ⟨R, hM, ?_, ?_⟩
  · unfold stepDen
    rw [hM, sub_coe_exp, ← EReal.coe_mul, den_rescale, Finset.sum_congr rfl fun j _ => sub_coe_exp _ _, coe_sum, ← EReal.coe_add]
    unfold den
    rw [Finset.sum_product (insert b P), Finset.sum_insert hb, Finset.sum_product P, add_comm]
  · unfold stepNum
    rw [hM, sub_coe_exp, num_rescale, Finset.sum_congr rfl fun j _ => by rw [sub_coe_exp]]
    unfold num
    rw [Finset.sum_product (insert b P), Finset.sum_insert hb, Finset.sum_product P, add_comm]

end Cert.Attn

end
-- ==== Proof.Read.lean ====
/-
The kernel's running maximum, denominator and numerator read at an index, on the extended reals.
-/
module

public import proofs.«01_k».proof.Proof.KernelIdealBody
public import proofs.«01_k».proof.Proof.Math
public import Idealize.ShloMosaic.Lib.MatmulPlain
public import Idealize.ShloMosaic.Lib.ValueLayout
public import Idealize.ShloMosaic.Lib.ValueLayoutCasts

@[expose] public section

noncomputable section

namespace Cert.KernelIdeal.Attn

open Cert.KernelIdeal Cert.KernelIdeal.Gen Cert.Attn
open Idealize.ShloMosaic Idealize.ShloMosaic.ValueIdx
open scoped BigOperators

/-! ## Two constants -/

/-- The kernel's first running maximum is minus infinity. -/
theorem ofBits_neg_inf : Ideal.ofBits .f32 0xFF800000#32 = ⊥ := by simp [Ideal.ofBits, Ideal.ieee]

/-! ## One block's step, as arrays -/

variable (q : FVec Ideal S512x128 .bf16) (k v : FVec Ideal S512x128 .bf16)
variable (M l : FVec Ideal S512x1 .f32) (a : FVec Ideal S512x128 .f32)

/-- The scores of the scaled queries `q` against the keys `k`, -/
def scoreT : FVec Ideal S512x512 .f32 :=
  matmul dot_S512x128_S128x512_S512x512_1_0_0_1_n_n none q (transpose S128x512 [1, 0] k transposes_S512x128_p1_0_S128x512)
    (constant S512x512 .f32 0x00000000#32)
/-- the new running maximum, -/
def maxT : FVec Ideal S512x1 .f32 :=
  maximumf M (shapeCast S512x1 (multiReduction .maximumf [1] S512 (scoreT q k) 0xFF800000#32 reduces_S512x512_S512 (.inl rfl) rfl)
    shapeCasts_S512_S512x1)
/-- the weights, -/
def expT : FVec Ideal S512x512 .f32 :=
  exp (subf (scoreT q k) (broadcastTo S512x512 (maxT q k M) broadcasts_S512x1_S512x512))
/-- the factor the old sums are scaled by, -/
def alphaT : FVec Ideal S512x1 .f32 := exp (subf M (maxT q k M))
/-- the new running denominator, -/
def denT : FVec Ideal S512x1 .f32 :=
  addf (mulf l (alphaT q k M)) (shapeCast S512x1 (multiReduction .add [1] S512 (expT q k M) 0x00000000#32 reduces_S512x512_S512
    (.inl rfl) rfl) shapeCasts_S512_S512x1)
/-- and the new running numerator. -/
def numT : FVec Ideal S512x128 .f32 :=
  addf (mulf a (broadcastTo S512x128 (alphaT q k M) broadcasts_S512x1_S512x128))
    (matmul dot_S512x512_S512x128_S512x128_1_0_0_1_n_n none (truncf .bf16 (expT q k M) bitsLt_bf16_f32) v
      (constant S512x128 .f32 0x00000000#32))

/-! ## The same at an index -/

/-- The score of query `i` against key `j`. -/
theorem scoreT_apply (i j : Fin 512) : scoreT q k (ix2 i j) = ∑ d : Fin 128, q (ix2 i d) * k (ix2 j d) := by
  refine (Ideal.matmul_plain_apply (M := 512) (K := 128) (N := 512) none q
    (transpose S128x512 [1, 0] k transposes_S512x128_p1_0_S128x512) (constant S512x512 .f32 0x00000000#32) i j).trans ?_
  rw [constant_apply, Ideal.ofBits_zero_f32, zero_add]
  exact Finset.sum_congr rfl fun d _ => congrArg (q (ix2 i d) * ·) (transpose_ix2_apply k _ d j)

/-- The entries a row reduction runs over are those of the row. -/
theorem lift_row (i j : Fin 512) : (reduces_S512x512_S512 : S512x512.Reduces [1] S512).lift (ix1 i) j = ix2 i j := by
  funext c; apply Fin.ext
  match c with
  | ⟨0, _⟩ => rfl
  | ⟨1, _⟩ => rfl

/-- Row `i` of the new maximum is one step of the running maximum. -/
theorem maxT_apply (i : Fin 512) (u : Fin 1) :
    maxT q k M (ix2 i u) = stepMax (M (ix2 i u)) fun j => scoreT q k (ix2 i j) := by
  unfold maxT stepMax
  rw [maximumf_apply]
  refine congrArg (max (M (ix2 i u))) ((shapeCast_a_a1_apply _ _ i u).trans ((Ideal.multiReduction_maximumf_single _ _ _ _ _ _).trans ?_))
  rw [show FloatOps.ofBits (F := Ideal) .f32 0xFF800000#32 = (⊥ : EReal) from ofBits_neg_inf]
  exact Finset.fold_congr fun j _ => congrArg (scoreT q k) (lift_row i j)

/-- A column spread over a row is the same in every place. -/
theorem broadcast_col {n : ℕ} (x : FVec Ideal S512x1 .f32) (h : S512x1.Broadcasts ⟨2, ![512, n]⟩) (i : Fin 512) (j : Fin n) :
    broadcastTo ⟨2, ![512, n]⟩ x h (ix2 i j) = x (ix2 i 0) :=
  broadcastTo_apply x h (ix2 i j) (ix2 i 0) fun c => match c with | ⟨0, _⟩ => rfl | ⟨1, _⟩ => rfl

/-- An entry of the exponentials, relative to the new maximum. -/
theorem expT_apply (i j : Fin 512) :
    expT q k M (ix2 i j) = Ideal.exp (scoreT q k (ix2 i j) - stepMax (M (ix2 i 0)) fun j => scoreT q k (ix2 i j)) := by
  show Ideal.exp (scoreT q k (ix2 i j) - broadcastTo S512x512 (maxT q k M) broadcasts_S512x1_S512x512 (ix2 i j)) = _
  rw [broadcast_col, maxT_apply]

/-- The factor by which what was summed before is rescaled. -/
theorem alphaT_apply (i : Fin 512) (u : Fin 1) :
    alphaT q k M (ix2 i u) = Ideal.exp (M (ix2 i u) - stepMax (M (ix2 i u)) fun j => scoreT q k (ix2 i j)) := by
  show Ideal.exp (M (ix2 i u) - maxT q k M (ix2 i u)) = _
  rw [maxT_apply]

/-- Row `i` of the new denominator is one step of the running denominator. -/
theorem denT_apply (i : Fin 512) :
    denT q k M l (ix2 i 0) = stepDen (M (ix2 i 0)) (l (ix2 i 0)) fun j => scoreT q k (ix2 i j) := by
  unfold denT stepDen
  rw [addf_apply, mulf_apply, alphaT_apply]
  refine congrArg (_ + ·) ((shapeCast_a_a1_apply _ _ i 0).trans ((Ideal.multiReduction_add_single _ _ _ _ _ _).trans ?_))
  exact Finset.sum_congr rfl fun j _ => (congrArg (expT q k M) (lift_row i j)).trans (expT_apply q k M i j)

/-- An entry of the new numerator is one step of the running numerator. -/
theorem numT_apply (i : Fin 512) (d : Fin 128) :
    numT q k v M a (ix2 i d)
      = stepNum (M (ix2 i 0)) (a (ix2 i d)) (fun j => scoreT q k (ix2 i j)) fun j => v (ix2 j d) := by
  unfold numT stepNum
  rw [addf_apply, mulf_apply, broadcast_col, alphaT_apply]
  refine congrArg (_ + ·) ((Ideal.matmul_plain_apply (M := 512) (K := 512) (N := 128) none
    (truncf .bf16 (expT q k M) bitsLt_bf16_f32) v (constant S512x128 .f32 0x00000000#32) i d).trans ?_)
  rw [constant_apply, Ideal.ofBits_zero_f32, zero_add]
  exact Finset.sum_congr rfl fun j _ => by rw [truncf_apply, expT_apply]

/-! ## The result as four steps -/

variable (m : (ℓ : Loc nD τ sig) → Buf (Elt Ideal) ℓ)

/-- The keys and the values in the block of the device `s` places on. -/
def kb (c : Dev nD) (s : Fin 4) : FVec Ideal S512x128 .bf16 := half m (rot c s) 0
/-- The values in the block of the device `s` places on. -/
def vb (c : Dev nD) (s : Fin 4) : FVec Ideal S512x128 .bf16 := half m (rot c s) 1

/-- The keys read from slot `s` are those of the device `s` places on, -/
theorem ks_cast (c : Dev nD) (s : Fin 4) : shapeCast S512x128 (ks m c s) shapeCasts_S1x1x512x128_S512x128 = kb m c s :=
  shapeCast_lift4 _ _
/-- and so are the values. -/
theorem vs_cast (c : Dev nD) (s : Fin 4) : shapeCast S512x128 (vs m c s) shapeCasts_S1x1x512x128_S512x128 = vb m c s :=
  shapeCast_lift4 _ _

/-- The first block is a step from minus infinity and zeros; -/
theorem mx1_eq (c : Dev nD) : mx1 m c = maxT (qs m c) (kb m c 0) (k0_pay4 (F := Ideal)) := by
  unfold mx1 k0_pay7 k0_pay6; rw [ks_cast]; rfl
/-- so is the denominator, -/
theorem dn1_eq (c : Dev nD) : dn1 m c = denT (qs m c) (kb m c 0) (k0_pay4 (F := Ideal)) (k0_pay5 (F := Ideal)) := by
  unfold dn1 k0_pay10 k0_pay9 k0_pay8 k0_pay7 k0_pay6; rw [ks_cast]; rfl
/-- and the numerator; -/
theorem nm1_eq (c : Dev nD) : nm1 m c = numT (qs m c) (kb m c 0) (vb m c 0) (k0_pay4 (F := Ideal))
    (broadcast S512x128 (Scalar.ofBits (F := Ideal) .f32 0x00000000#32)) := by
  unfold nm1 k0_pay11 k0_pay9 k0_pay8 k0_pay7 k0_pay6; rw [ks_cast, vs_cast]; rfl
/-- the second block is a step from there, -/
theorem mx2_eq (c : Dev nD) : mx2 m c = maxT (qs m c) (kb m c 1) (mx1 m c) := by
  unfold mx2 k0_pay13 k0_pay12; rw [ks_cast]; rfl
/-- with the denominator, -/
theorem dn2_eq (c : Dev nD) : dn2 m c = denT (qs m c) (kb m c 1) (mx1 m c) (dn1 m c) := by
  unfold dn2 k0_pay16 k0_pay15 k0_pay14 k0_pay13 k0_pay12; rw [ks_cast]; rfl
/-- and the numerator; -/
theorem nm2_eq (c : Dev nD) : nm2 m c = numT (qs m c) (kb m c 1) (vb m c 1) (mx1 m c) (nm1 m c) := by
  unfold nm2 k0_pay17 k0_pay15 k0_pay14 k0_pay13 k0_pay12; rw [ks_cast, vs_cast]; rfl
/-- the third, -/
theorem mx3_eq (c : Dev nD) : mx3 m c = maxT (qs m c) (kb m c 3) (mx2 m c) := by
  unfold mx3 k0_pay20 k0_pay19 k0_pay18; rw [ks_cast]; rfl
/-- with the denominator, -/
theorem dn3_eq (c : Dev nD) : dn3 m c = denT (qs m c) (kb m c 3) (mx2 m c) (dn2 m c) := by
  unfold dn3 k0_pay23 k0_pay22 k0_pay21 k0_pay20 k0_pay19 k0_pay18; rw [ks_cast]; rfl
/-- and the numerator; -/
theorem nm3_eq (c : Dev nD) : nm3 m c = numT (qs m c) (kb m c 3) (vb m c 3) (mx2 m c) (nm2 m c) := by
  unfold nm3 k0_pay24 k0_pay22 k0_pay21 k0_pay20 k0_pay19 k0_pay18; rw [ks_cast, vs_cast]; rfl
/-- and the result is the numerator over the denominator after the fourth. -/
theorem outAt_eq (c : Dev nD) : outAt m c = divf (numT (qs m c) (kb m c 2) (vb m c 2) (mx3 m c) (nm3 m c))
    (broadcastTo S512x128 (denT (qs m c) (kb m c 2) (mx3 m c) (dn3 m c)) broadcasts_S512x1_S512x128) := by
  unfold outAt k0_pay26 k0_pay25; rw [ks_cast, vs_cast]; rfl

/-- The result at row `i`, column `d`: the last step's numerator over its denominator. -/
theorem outAt_apply (c : Dev nD) (i : Fin 512) (d : Fin 128) :
    outAt m c (ix2 i d) = Ideal.div (numT (qs m c) (kb m c 2) (vb m c 2) (mx3 m c) (nm3 m c) (ix2 i d))
      (denT (qs m c) (kb m c 2) (mx3 m c) (dn3 m c) (ix2 i 0)) := by
  rw [outAt_eq, divf_apply, broadcast_col]

/-! ## The result in closed form -/

/-- Where the scores of query `i` against all keys are the reals `s` and the values of column `d` are `v`, listed by the
    block and the place in it, the result is the last step's quotient over all four blocks, whatever number the scores
    are taken relative to. -/
theorem outAt_value (c : Dev nD) (i : Fin 512) (d : Fin 128) (s : Dev nD × Fin 512 → ℝ) (w : Dev nD × Fin 512 → EReal)
    (hs : ∀ t j, scoreT (qs m c) (kb m c t) (ix2 i j) = (s (rot c t, j) : EReal))
    (hw : ∀ t j, vb m c t (ix2 j d) = w (rot c t, j)) (r : ℝ) :
    outAt m c (ix2 i d)
      = ∑ x : Dev nD × Fin 512, Ideal.div ((Real.exp (s x - r) : ℝ) : EReal) (den s Finset.univ r : EReal) * w x := by
  have h0 : Stands s w {rot c 0} (mx1 m c (ix2 i 0)) (dn1 m c (ix2 i 0)) (nm1 m c (ix2 i d)) := by
    rw [mx1_eq, dn1_eq, nm1_eq, maxT_apply, denT_apply, numT_apply]
    have e4 : k0_pay4 (F := Ideal) (ix2 i 0) = (⊥ : EReal) := ofBits_neg_inf
    have e5 : k0_pay5 (F := Ideal) (ix2 i 0) = (0 : EReal) := Ideal.ofBits_zero_f32
    have e6 : broadcast S512x128 (Scalar.ofBits (F := Ideal) .f32 0x00000000#32) (ix2 i d) = (0 : EReal) := Ideal.ofBits_zero_f32
    rw [e4, e5, e6]
    simp only [hs, hw]
    exact stands_first _
  have k1 : ∀ c : Dev nD, rot c 1 ∉ ({rot c 0} : Finset (Dev nD)) := by decide
  have k3 : ∀ c : Dev nD, rot c 3 ∉ (insert (rot c 1) {rot c 0} : Finset (Dev nD)) := by decide
  have k2 : ∀ c : Dev nD, rot c 2 ∉ (insert (rot c 3) (insert (rot c 1) {rot c 0}) : Finset (Dev nD)) := by decide
  have ka : ∀ c : Dev nD, (insert (rot c 2) (insert (rot c 3) (insert (rot c 1) {rot c 0})) : Finset (Dev nD)) = Finset.univ := by decide
  have h1 := stands_step (k1 c) h0
  simp only [← hs, ← hw] at h1
  rw [← maxT_apply, ← denT_apply, ← numT_apply, ← mx2_eq, ← dn2_eq, ← nm2_eq] at h1
  have h3 := stands_step (k3 c) h1
  simp only [← hs, ← hw] at h3
  rw [← maxT_apply, ← denT_apply, ← numT_apply, ← mx3_eq, ← dn3_eq, ← nm3_eq] at h3
  have h2 := stands_step (k2 c) h3
  simp only [← hs, ← hw] at h2
  rw [← maxT_apply, ← denT_apply, ← numT_apply, ka] at h2
  obtain ⟨R, -, hl, ha⟩ := h2
  rw [outAt_apply, hl, ha, Finset.univ_product_univ]
  exact num_div_den s w Finset.univ_nonempty R r

end Cert.KernelIdeal.Attn

end
-- ==== Proof.Ref.lean ====
/-
The reference read at an index, on the extended reals: where the scores of a row are real, the row is the sum of the
values by normalised weights.
-/
module

public import proofs.«01_k».proof.Proof.Gen.ReferenceIdeal
public import proofs.«01_k».proof.Proof.Gen.ReferenceIdeal.Run
public import proofs.«01_k».proof.Proof.Math
public import Idealize.ShloMosaic.Lib.IdealHost
public import Idealize.ShloMosaic.Lib.MatmulPlain
public import Idealize.ShloMosaic.Lib.ValueLayout

@[expose] public section

noncomputable section

namespace Cert.ReferenceIdeal.Attn

open Cert.ReferenceIdeal Cert.ReferenceIdeal.Gen Cert.Attn
open Idealize.ShloMosaic Idealize.ShloMosaic.TcCoe Idealize.ShloMosaic.ValueIdx Idealize.SL.Sem
open scoped BigOperators

variable (q k v : FVec Ideal S2048x128 .bf16)

/-- The reference's scores, -/
def scoreR : FVec Ideal S2048x2048 .f32 :=
  Host.divf (Host.dotGeneral dot_S2048x128_S128x2048_S2048x2048_1_0_0_1_n_n none (extf .f32 q bitsLt_bf16_f32)
    (transpose S128x2048 [1, 0] (extf .f32 k bitsLt_bf16_f32) transposes_S2048x128_S128x2048_1_0))
    (broadcastInDim S2048x2048 ![] bcast_S_S2048x2048 (id (Host.sqrt (constant (F := Ideal) S_ .f32 0x43000000#32))))
/-- a column of row numbers spread over the rows, -/
def spread (x : FVec Ideal S2048 .f32) : FVec Ideal S2048x2048 .f32 :=
  broadcastInDim S2048x2048 ![0, 1] bcast_S2048x1_S2048x2048_0_1 (broadcastInDim S2048x1 ![0] bcast_S2048_S2048x1_0 x)
/-- the rows' maxima, -/
def maxR : FVec Ideal S2048 .f32 :=
  Host.reduce FloatOps.maximumf (scoreR q k) (constant S_ .f32 0xFF800000#32) reducesTo_S2048x2048_S2048_d1 h_S_
/-- the weights, -/
def expR : FVec Ideal S2048x2048 .f32 := Host.exp (subf (scoreR q k) (spread (maxR q k)))
/-- their sums by rows, -/
def sumR : FVec Ideal S2048 .f32 :=
  Host.reduceAdd (expR q k) (constant S_ .f32 0x00000000#32) reducesTo_S2048x2048_S2048_d1 h_S_
/-- and the result. -/
def outR : FVec Ideal S2048x128 .f32 :=
  Host.dotGeneral dot_S2048x2048_S2048x128_S2048x128_1_0_0_1_n_n none (Host.divf (expR q k) (spread (sumR q k)))
    (extf .f32 v bitsLt_bf16_f32)

/-- Every run of the reference ends with `outR` of the arguments in its result, the arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18)
        = outR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

/-! ## At an index -/

/-- A product of two matrices on the host read at (r, c). -/
theorem dot_plain_apply {M K N : ℕ} {φ₁ φ₂ : FTy} (prec : Option ContractPrecision) (sched : HostSchedule)
    (x : FVec Ideal ⟨2, ![M, K]⟩ φ₁) (y : FVec Ideal ⟨2, ![K, N]⟩ φ₂) (r : Fin M) (c : Fin N) :
    FloatOps.dotGeneral (DotDims.plain M K N) prec sched x y (ix2 r c) = ∑ t : Fin K, x (ix2 r t) * y (ix2 t c) := by
  have h := Ideal.matmul_plain_apply prec x y (constant ⟨2, ![M, N]⟩ .f32 0x00000000#32) r c
  rw [Ideal.matmul_constant_zero_apply, constant_apply, Ideal.ofBits_zero_f32, zero_add] at h
  rw [Ideal.dotGeneral_apply]
  exact h

/-- A score is the product of the query and the key over the root of 128. -/
theorem scoreR_apply (i j : Fin 2048) :
    scoreR q k (ix2 i j) = Ideal.div (∑ d : Fin 128, q (ix2 i d) * k (ix2 j d)) ((Real.sqrt 128 : ℝ) : EReal) := by
  unfold scoreR
  rw [hostDivf_apply, broadcastInDim_scalar_apply]
  have hd : id (Host.sqrt (constant (F := Ideal) S_ .f32 0x43000000#32)) ix0 = ((Real.sqrt 128 : ℝ) : EReal) := by
    show Ideal.sqrt (Ideal.ofBits .f32 0x43000000#32) = _
    have h128 : Ideal.ofBits .f32 0x43000000#32 = ((128 : ℝ) : EReal) := by
      simp only [Ideal.ofBits, Ideal.ieee]; simp [-EReal.coe_mul]; norm_num
    rw [h128, Ideal.sqrt_coe, if_neg (by norm_num)]
  rw [hd]
  refine congrArg (Ideal.div · _) ((dot_plain_apply (M := 2048) (K := 128) (N := 2048) none _
    (extf .f32 q bitsLt_bf16_f32) (transpose S128x2048 [1, 0] (extf .f32 k bitsLt_bf16_f32) transposes_S2048x128_S128x2048_1_0) i j).trans ?_)
  exact Finset.sum_congr rfl fun d _ => congrArg (q (ix2 i d) * ·) (transpose_ix2_apply (extf .f32 k bitsLt_bf16_f32) _ d j)

/-- A column spread over the rows is the same all along a row. -/
theorem spread_apply (x : FVec Ideal S2048 .f32) (i j : Fin 2048) : spread x (ix2 i j) = x (ix1 i) := by
  unfold spread
  refine (broadcastInDim_apply _ _ _ (ix2 i j) (ix2 i (0 : Fin 1)) fun c => match c with | ⟨0, _⟩ => rfl | ⟨1, _⟩ => rfl).trans ?_
  exact broadcastInDim_apply _ _ _ (ix2 i (0 : Fin 1)) (ix1 i) fun c => match c with | ⟨0, _⟩ => rfl

/-- The row reductions run over the second axis. -/
theorem reduces_row : S2048x2048.Reduces [1] S2048 := by decide

/-- The entries a row reduction runs over are those of the row. -/
theorem lift_row (i j : Fin 2048) : reduces_row.lift (ix1 i) j = ix2 i j := by
  funext c; apply Fin.ext
  match c with
  | ⟨0, _⟩ => rfl
  | ⟨1, _⟩ => rfl

/-- The maximum of row `i`. -/
theorem maxR_apply (i : Fin 2048) :
    maxR q k (ix1 i) = (Finset.univ : Finset (Fin 2048)).fold max ⊥ fun j => scoreR q k (ix2 i j) := by
  unfold maxR
  refine (Host.reduce_eq_fold_single _ _ _ _ reduces_row _ _).trans ?_
  have hb : (constant (F := Ideal) S_ .f32 0xFF800000#32) (Shape.Idx.first h_S_) = (⊥ : EReal) := by
    show Ideal.ofBits .f32 0xFF800000#32 = _
    simp [Ideal.ofBits, Ideal.ieee]
  rw [hb]
  exact Finset.fold_congr fun j _ => congrArg (scoreR q k) (lift_row i j)

/-- An entry of the exponentials, relative to the row's maximum. -/
theorem expR_apply (i j : Fin 2048) : expR q k (ix2 i j) = Ideal.exp (scoreR q k (ix2 i j) - maxR q k (ix1 i)) := by
  show Ideal.exp (scoreR q k (ix2 i j) - spread (maxR q k) (ix2 i j)) = _
  rw [spread_apply]

/-- The sum of row `i`'s exponentials. -/
theorem sumR_apply (i : Fin 2048) : sumR q k (ix1 i) = ∑ j : Fin 2048, expR q k (ix2 i j) := by
  unfold sumR
  rw [hostReduceAdd_apply, Ideal.hostReduceAdd_single _ reduces_row, constant_apply, Ideal.ofBits_zero_f32, zero_add]
  exact Finset.sum_congr rfl fun j _ => congrArg (expR q k) (lift_row i j)

/-- An entry of the result: the values weighted by the normalised exponentials. -/
theorem outR_apply (i : Fin 2048) (d : Fin 128) :
    outR q k v (ix2 i d) = ∑ j : Fin 2048, Ideal.div (expR q k (ix2 i j)) (sumR q k (ix1 i)) * v (ix2 j d) := by
  refine (dot_plain_apply (M := 2048) (K := 2048) (N := 128) none _ (Host.divf (expR q k) (spread (sumR q k)))
    (extf .f32 v bitsLt_bf16_f32) i d).trans ?_
  refine Finset.sum_congr rfl fun j _ => ?_
  rw [hostDivf_apply, spread_apply, extf_apply]

/-- Where the scores of row `i` are the reals `s`, the row's result is the sum of the values by normalised weights. -/
theorem outR_value (i : Fin 2048) (s : Fin 2048 → ℝ) (hs : ∀ j, scoreR q k (ix2 i j) = (s j : EReal)) :
    ∃ r : ℝ, ∀ d : Fin 128, outR q k v (ix2 i d)
      = ∑ j : Fin 2048, Ideal.div ((Real.exp (s j - r) : ℝ) : EReal) (den s Finset.univ r : EReal) * v (ix2 j d) := by
  obtain ⟨r, hr⟩ := fold_max_real s
  have hM : maxR q k (ix1 i) = (r : EReal) := by rw [maxR_apply, ← hr]; simp only [hs]
  have hE : ∀ j, expR q k (ix2 i j) = ((Real.exp (s j - r) : ℝ) : EReal) := fun j => by
    rw [expR_apply, hs, hM, sub_coe_exp]
  have hD : sumR q k (ix1 i) = (den s Finset.univ r : EReal) := by
    rw [sumR_apply, Finset.sum_congr rfl fun j _ => hE j, coe_sum]; rfl
  refine ⟨r, fun d => ?_⟩
  rw [outR_apply, hD]
  exact Finset.sum_congr rfl fun j _ => by rw [hE]

end Cert.ReferenceIdeal.Attn

end
-- ==== Proof.Pre.lean ====
/-
The precondition: the facts its two printings take, and what it says, that every query and key is a real number.
-/
module

public import proofs.«01_k».proof.Pre_finite_scores_KernelIdeal
public import proofs.«01_k».proof.Pre_finite_scores_ReferenceIdeal
public import Idealize.ShloMosaic.Lib.ReduceAll
public import Idealize.ShloMosaic.Lib.IdealHost

@[expose] public section

noncomputable section

namespace Cert.Attn

open Idealize.ShloMosaic Idealize.ShloMosaic.ValueIdx

/-- The shape facts the precondition takes on a device's block, -/
theorem facts_block : Cert.Pre_finite_scores_KernelIdeal.Facts := ⟨by decide, by decide, by decide, by decide⟩
/-- and on the whole arrays. -/
theorem facts_whole : Cert.Pre_finite_scores_ReferenceIdeal.Facts := ⟨by decide, by decide, by decide, by decide⟩

/-- A number whose absolute value is less than plus infinity is real. -/
theorem real_of_abs_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Where the precondition holds of a block, every query and every key in it is real. -/
theorem real_of_pre [Cert.Pre_finite_scores_KernelIdeal.Facts] (q k v : FVec Ideal Cert.Pre_finite_scores_KernelIdeal.S512x128 .bf16)
    (h : Cert.Pre_finite_scores_KernelIdeal.fn (F := Ideal) q k v = fun _ => 1#1) :
    (∀ i, ∃ r : ℝ, q i = (r : EReal)) ∧ ∀ i, ∃ r : ℝ, k i = (r : EReal) := by
  haveI : Subsingleton Cert.Pre_finite_scores_KernelIdeal.S_.Idx := ⟨fun a b => funext fun x => x.elim0⟩
  obtain ⟨hq, hk⟩ := IntOp.andi_eq_one.1 (congrFun h ix0)
  exact ⟨fun i => real_of_abs_lt _ (Host.reduce_andi_all _ _ _ _ _ hq i), fun i => real_of_abs_lt _ (Host.reduce_andi_all _ _ _ _ _ hk i)⟩

end Cert.Attn

end
-- ==== Proof.Value.lean ====
/-
The kernel's result is its block of the reference's: the scores agree, and so the sums over the four blocks of 512 keys
and over the 2048 keys.
-/
module

public import proofs.«01_k».proof.Proof.Finals
public import proofs.«01_k».proof.Proof.Read
public import proofs.«01_k».proof.Proof.Ref
public import proofs.«01_k».proof.Proof.Pre
public import Idealize.ShloMosaic.Lib.Layout

@[expose] public section

noncomputable section

namespace Cert.KernelIdeal.Attn

open Cert.KernelIdeal Cert.KernelIdeal.Gen Cert.Attn
open Idealize.ShloMosaic Idealize.ShloMosaic.TcCoe Idealize.ShloMosaic.ValueIdx Idealize.SL.Sem
open scoped BigOperators

/-! ## Rows of the whole arrays -/

/-- The row of the whole array that row `x.2` of device `x.1`'s block is. -/
def row : Dev nD × Fin 512 ≃ Fin 2048 := finProdFinEquiv

/-- A block read at an index is the whole array read at that row. -/
theorem block_at (f : S512x128.Idx → EReal) (g : (⟨2, ![2048, 128]⟩ : Shape).Idx → EReal) (c : Dev nD)
    (h : f = Layout.block ⟨2, ![512, 128]⟩ ⟨2, ![2048, 128]⟩ 0 4 c g) (i : Fin 512) (d : Fin 128) :
    f (ix2 i d) = g (ix2 (row (c, i)) d) := by
  rw [h, Layout.block_apply]
  refine congrArg g (funext fun b => Fin.ext ?_)
  match b with
  | ⟨0, _⟩ =>
    show c.val * 512 + i.val = i.val + 512 * c.val
    omega
  | ⟨1, _⟩ => rfl

/-! ## The scores -/

/-- The named constant is the inverse of the root of 128. -/
theorem scale_eq : (Named.named (F := Ideal) κ "scale" (φ := .bf16) 0x3DB5#16 : EReal) = (((Real.sqrt 128)⁻¹ : ℝ) : EReal) :=
  IdealRules.named_const.ideal_named_scalar _ _ _ _ rfl

variable (m : (ℓ : Loc nD τ sig) → Buf (Elt Ideal) ℓ)

/-- Device `c`'s queries. -/
def qb (c : Dev nD) : FVec Ideal S512x128 .bf16 := m ((c : Thread nD τ).loc main_arg0)

/-- A scaled query is the query times one over the root of 128. -/
theorem qs_apply (c : Dev nD) (i : Fin 512) (d : Fin 128) :
    qs m c (ix2 i d) = qb m c (ix2 i d) * (((Real.sqrt 128)⁻¹ : ℝ) : EReal) := by
  unfold qs k0_pay3
  rw [mulf_apply, broadcast_apply, scale_eq, qblk_eq, shapeCast_apply _ _ (ix2 i d) (ix2 i d) rfl, qb]

/-- The block of keys in slot `t` is the argument of the device `t` places on, -/
theorem kb_eq (c : Dev nD) (t : Fin 4) : kb m c t = m ((rot c t : Thread nD τ).loc main_arg1) := kblk_eq m (rot c t)
/-- and so is the block of values. -/
theorem vb_eq (c : Dev nD) (t : Fin 4) : vb m c t = m ((rot c t : Thread nD τ).loc main_arg2) := vblk_eq m (rot c t)

variable (q k v : FVec Ideal Cert.ReferenceIdeal.S2048x128 .bf16)

/-- The real number the score of row `i` against key `j` is. -/
def score (i j : Fin 2048) : ℝ := (∑ d : Fin 128, (q (ix2 i d)).toReal * (k (ix2 j d)).toReal) * (1 / Real.sqrt 128)

/-- The memory's arrays are the blocks of `q`, `k` and `v`, -/
def Blocks : Prop := ∀ c : Dev nD,
  m ((c : Thread nD τ).loc main_arg0) = Layout.block ⟨2, ![512, 128]⟩ ⟨2, ![2048, 128]⟩ 0 4 c q
  ∧ m ((c : Thread nD τ).loc main_arg1) = Layout.block ⟨2, ![512, 128]⟩ ⟨2, ![2048, 128]⟩ 0 4 c k
  ∧ m ((c : Thread nD τ).loc main_arg2) = Layout.block ⟨2, ![512, 128]⟩ ⟨2, ![2048, 128]⟩ 0 4 c v

variable {m q k v}

/-- A sum of products of reals is the real sum. -/
theorem dot_real (hq : ∀ i, ∃ r : ℝ, q i = (r : EReal)) (hk : ∀ i, ∃ r : ℝ, k i = (r : EReal)) (i j : Fin 2048) :
    (∑ d : Fin 128, q (ix2 i d) * k (ix2 j d)) = ((∑ d : Fin 128, (q (ix2 i d)).toReal * (k (ix2 j d)).toReal : ℝ) : EReal) := by
  rw [← coe_sum]
  refine Finset.sum_congr rfl fun d _ => ?_
  obtain ⟨a, ha⟩ := hq (ix2 i d)
  obtain ⟨b, hb⟩ := hk (ix2 j d)
  rw [ha, hb, EReal.toReal_coe, EReal.toReal_coe, EReal.coe_mul]

/-- The reference's score; -/
theorem scoreR_real (hq : ∀ i, ∃ r : ℝ, q i = (r : EReal)) (hk : ∀ i, ∃ r : ℝ, k i = (r : EReal)) (i j : Fin 2048) :
    Cert.ReferenceIdeal.Attn.scoreR q k (ix2 i j) = (score q k i j : EReal) := by
  rw [Cert.ReferenceIdeal.Attn.scoreR_apply, dot_real hq hk, Ideal.div_coe (Real.sqrt_pos.2 (by norm_num)).ne', ← EReal.coe_mul]
  rfl

/-- the kernel's, the factor on the query. -/
theorem scoreT_real (hb : Blocks m q k v) (hq : ∀ i, ∃ r : ℝ, q i = (r : EReal)) (hk : ∀ i, ∃ r : ℝ, k i = (r : EReal))
    (c : Dev nD) (t : Fin 4) (i j : Fin 512) :
    scoreT (qs m c) (kb m c t) (ix2 i j) = (score q k (row (c, i)) (row (rot c t, j)) : EReal) := by
  rw [scoreT_apply]
  have e : ∀ d : Fin 128, qs m c (ix2 i d) * kb m c t (ix2 j d)
      = q (ix2 (row (c, i)) d) * k (ix2 (row (rot c t, j)) d) * (((Real.sqrt 128)⁻¹ : ℝ) : EReal) := fun d => by
    rw [qs_apply, kb_eq, block_at (qb m c) q c (hb c).1, block_at _ k (rot c t) (hb (rot c t)).2.1, mul_right_comm]
  rw [Finset.sum_congr rfl fun d _ => e d, ← sum_mul_real _ _ (inv_nonneg.2 (Real.sqrt_nonneg _)), dot_real hq hk, ← EReal.coe_mul]
  unfold score
  rw [one_div]

/-! ## The results -/

/-- Each device's result is its block of the reference's. -/
theorem outAt_block (hb : Blocks m q k v) (hq : ∀ i, ∃ r : ℝ, q i = (r : EReal)) (hk : ∀ i, ∃ r : ℝ, k i = (r : EReal)) (c : Dev nD) :
    outAt m c = Layout.block ⟨2, ![512, 128]⟩ ⟨2, ![2048, 128]⟩ 0 4 c (Cert.ReferenceIdeal.Attn.outR q k v) := by
  funext x
  obtain ⟨i, d, rfl⟩ : ∃ i d, x = ix2 i d := ⟨_, _, eq_ix2 x⟩
  rw [block_at _ (Cert.ReferenceIdeal.Attn.outR q k v) c rfl]
  obtain ⟨r, hr⟩ := Cert.ReferenceIdeal.Attn.outR_value q k v (row (c, i)) (score q k (row (c, i))) fun j => scoreR_real hq hk _ j
  rw [hr d, outAt_value m c i d (fun x => score q k (row (c, i)) (row x)) (fun x => v (ix2 (row x) d))
    (fun t j => scoreT_real hb hq hk c t i j) (fun t j => by rw [vb_eq, block_at _ v (rot c t) (hb (rot c t)).2.2]) r,
    ← Equiv.sum_comp row]
  have hd : den (fun x => score q k (row (c, i)) (row x)) Finset.univ r = den (score q k (row (c, i))) Finset.univ r :=
    Equiv.sum_comp row fun j => Real.exp (score q k (row (c, i)) j - r)
  rw [hd]

/-- Blocks that are all real make a real whole. -/
theorem real_of_blocks {g : (⟨2, ![2048, 128]⟩ : Shape).Idx → EReal} {f : Dev nD → S512x128.Idx → EReal}
    (h : ∀ c, f c = Layout.block ⟨2, ![512, 128]⟩ ⟨2, ![2048, 128]⟩ 0 4 c g) (hf : ∀ c i, ∃ r : ℝ, f c i = (r : EReal)) :
    ∀ i, ∃ r : ℝ, g i = (r : EReal) := fun x => by
  obtain ⟨i, d, rfl⟩ : ∃ i d, x = ix2 i d := ⟨_, _, eq_ix2 x⟩
  obtain ⟨⟨c, i⟩, rfl⟩ := row.surjective i
  rw [← block_at (f c) g c (h c) i d]
  exact hf c _

end Cert.KernelIdeal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel as printed runs, leaves its arguments as they were and every semaphore at zero. -/
theorem kernel_quiet : Cert.quiescent_Kernel (hKernel := Cert.Kernel.Gen.facts) := fun m g _ =>
  (θ_run _ _ _).mono (fun _ h => ⟨fun c => ⟨(h.1 c (0 : Fin 4)).trans (Cert.Kernel.Attn.finalA_q m c),
    (h.1 c (1 : Fin 4)).trans (Cert.Kernel.Attn.finalA_k m c), (h.1 c (2 : Fin 4)).trans (Cert.Kernel.Attn.finalA_v m c)⟩, h.2⟩)
    (Cert.Kernel.Attn.run_main m g)

/-- So does the kernel with its scale named. -/
theorem ideal_quiet : Cert.quiescent_KernelIdeal (hKernelIdeal := Cert.KernelIdeal.Gen.facts) := fun m g _ =>
  (θ_run _ _ _).mono (fun _ h => ⟨fun c => (h.1 c).2, h.2⟩) (Cert.KernelIdeal.Attn.run_value m g)

/-- So does the reference. -/
theorem reference_quiet : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Attn.run_ref m g)

/-- Naming the scale is the one replacement, and the name stands for the inverse of the root of 128. -/
theorem scale_named : Cert.preserves_Kernel_KernelIdeal :=
  IdealRules.named_const.statement Cert.KernelIdeal.κ "scale" .bf16 0x3DB5#16 (((Real.sqrt 128)⁻¹ : ℝ) : EReal) rfl

/-- From blocks of the same arrays, the queries and the keys finite, each device ends with its block of the reference's
    result. -/
theorem results_agree : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := Cert.Attn.facts_block) := fun m g m' g' hp hb => by
  haveI := Cert.Attn.facts_block
  have hq := Cert.KernelIdeal.Attn.real_of_blocks (fun c => (hb c).1) fun c => (Cert.Attn.real_of_pre _ _ _ (hp c)).1
  have hk := Cert.KernelIdeal.Attn.real_of_blocks (fun c => (hb c).2.1) fun c => (Cert.Attn.real_of_pre _ _ _ (hp c)).2
  refine ⟨_, (θ_run _ _ _).mono (fun _ h c => ⟨(h.1 c).1.trans ?_, (h.1 c).2⟩) (Cert.KernelIdeal.Attn.run_value m g),
    (θ_run _ _ _).mono (fun _ h => h 0) (Cert.ReferenceIdeal.Attn.run_ref m' g')⟩
  exact Cert.KernelIdeal.Attn.outAt_block hb hq hk c

/-- Every claim. -/
theorem claim : Cert.Claim :=
  ⟨Cert.Kernel.Gen.facts, Cert.KernelIdeal.Gen.facts, Cert.ReferenceIdeal.Gen.facts, Cert.Attn.facts_block, Cert.Attn.facts_whole,
    kernel_quiet, ideal_quiet, fun m g _ => ideal_quiet m g trivial, reference_quiet, fun m g _ => reference_quiet m g trivial,
    scale_named, results_agree⟩

end Cert.Proof

end
